-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_area [hPre_some_area : Cert.Pre_some_area.Facts] (m : (ℓ : Loc Cert.KernelIdeal.nD Cert.KernelIdeal.τ Cert.KernelIdeal.sig) → Buf (Elt Ideal) ℓ) : Prop :=
  ∀ c : Dev Cert.KernelIdeal.nD,
    (Cert.Pre_some_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_area [hPre_some_area : Cert.Pre_some_area.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_some_area [hKernelIdeal : Cert.KernelIdeal.Facts] [hPre_some_area : Cert.Pre_some_area.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_area m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_some_area [hReferenceIdeal : Cert.ReferenceIdeal.Facts] [hPre_some_area : Cert.Pre_some_area.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_area m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_some_area [hKernelIdeal : Cert.KernelIdeal.Facts] [hReferenceIdeal : Cert.ReferenceIdeal.Facts] [hPre_some_area : Cert.Pre_some_area.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_area m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_some_area : Cert.Pre_some_area.Facts),
    quiescent_Kernel (hKernel := hKernel)
    ∧ quiescent_KernelIdeal (hKernelIdeal := hKernelIdeal)
    ∧ quiescent_KernelIdeal_pre_some_area (hKernelIdeal := hKernelIdeal) (hPre_some_area := hPre_some_area)
    ∧ quiescent_ReferenceIdeal (hReferenceIdeal := hReferenceIdeal)
    ∧ quiescent_ReferenceIdeal_pre_some_area (hReferenceIdeal := hReferenceIdeal) (hPre_some_area := hPre_some_area)
    ∧ preserves_Kernel_KernelIdeal
    ∧ algebraic_KernelIdeal_ReferenceIdeal_pre_some_area (hKernelIdeal := hKernelIdeal) (hReferenceIdeal := hReferenceIdeal) (hPre_some_area := hPre_some_area)
-- ==== Pre_some_area.lean ====
abbrev S20000x4 : Shape := ⟨2, ![20000, 4]⟩
abbrev S128x4 : Shape := ⟨2, ![128, 4]⟩
abbrev S128 : Shape := ⟨1, ![128]⟩
abbrev S128x1 : Shape := ⟨2, ![128, 1]⟩
abbrev S20000x1 : Shape := ⟨2, ![20000, 1]⟩
abbrev S20000 : Shape := ⟨1, ![20000]⟩
abbrev S1x20000 : Shape := ⟨2, ![1, 20000]⟩
abbrev S128x20000 : Shape := ⟨2, ![128, 20000]⟩
abbrev S_ : Shape := ⟨0, ![]⟩

class Facts : Prop where
  slices_S128x4_S128x1_0_2 : S128x4.Slices ![0, 2] S128x1
  shapeCasts_S128x1_S128 : S128x1.ShapeCasts S128
  slices_S128x4_S128x1_0_0 : S128x4.Slices ![0, 0] S128x1
  slices_S128x4_S128x1_0_3 : S128x4.Slices ![0, 3] S128x1
  slices_S128x4_S128x1_0_1 : S128x4.Slices ![0, 1] S128x1
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S128_S128x1_0 : S128.BroadcastsInDim S128x1 (![0] : Fin 1 → Fin S128x1.rank)
  bcast_S20000_S1x20000_1 : S20000.BroadcastsInDim S1x20000 (![1] : Fin 1 → Fin S1x20000.rank)
  bcast_S128x1_S128x20000_0_1 : S128x1.BroadcastsInDim S128x20000 (![0, 1] : Fin 2 → Fin S128x20000.rank)
  bcast_S1x20000_S128x20000_0_1 : S1x20000.BroadcastsInDim S128x20000 (![0, 1] : Fin 2 → Fin S128x20000.rank)
  bcast_S_S128x20000 : S_.BroadcastsInDim S128x20000 (![] : Fin 0 → Fin S128x20000.rank)
  reducesTo_S128x20000_S20000_d0 : S128x20000.ReducesTo [0] S20000
  h_S_ : 0 < S_.numel

variable [Facts]

def fn_part1 {F : FTy → Type} [FloatOps F] (main_v22 : FVec F S128x1 .f32) (main_v23 : FVec F S1x20000 .f32) : IVec S20000 1 :=
  let main_v24 : FVec F S128x20000 .f32 := broadcastInDim S128x20000 ![0, 1] bcast_S128x1_S128x20000_0_1 main_v22
  let main_v25 : FVec F S128x20000 .f32 := broadcastInDim S128x20000 ![0, 1] bcast_S1x20000_S128x20000_0_1 main_v23
  let main_v26 : FVec F S128x20000 .f32 := addf main_v24 main_v25
  let main_cst : FVec F S_ .f32 := constant S_ .f32 0x00000000#32
  let main_v27 : FVec F S128x20000 .f32 := broadcastInDim S128x20000 ![] bcast_S_S128x20000 main_cst
  let main_v28 : IVec S128x20000 1 := cmpf .une main_v26 main_v27
  let main_c : IVec S_ 1 := constantI S_ 1 0#1
  let main_v29 : IVec S20000 1 := (fun x v => Host.reduce IntOp.ori x v reducesTo_S128x20000_S20000_d0 h_S_) main_v28 main_c
  main_v29

def fn {F : FTy → Type} [FloatOps F] (main_arg0 : FVec F S20000x4 .f32) (main_arg1 : FVec F S128x4 .f32) (main_arg2 : IVec S128 32) : IVec S20000 1 :=
  let main_v0 : FVec F S128x1 .f32 := (extractStridedSlice S128x1 ![0, 2] · slices_S128x4_S128x1_0_2) main_arg1
  let main_v1 : FVec F S128 .f32 := shapeCast S128 main_v0 shapeCasts_S128x1_S128
  let main_v2 : FVec F S128x1 .f32 := (extractStridedSlice S128x1 ![0, 0] · slices_S128x4_S128x1_0_0) main_arg1
  let main_v3 : FVec F S128 .f32 := shapeCast S128 main_v2 shapeCasts_S128x1_S128
  let main_v4 : FVec F S128 .f32 := subf main_v1 main_v3
  let main_v5 : FVec F S128x1 .f32 := (extractStridedSlice S128x1 ![0, 3] · slices_S128x4_S128x1_0_3) main_arg1
  let main_v6 : FVec F S128 .f32 := shapeCast S128 main_v5 shapeCasts_S128x1_S128
  let main_v7 : FVec F S128x1 .f32 := (extractStridedSlice S128x1 ![0, 1] · slices_S128x4_S128x1_0_1) main_arg1
  let main_v8 : FVec F S128 .f32 := shapeCast S128 main_v7 shapeCasts_S128x1_S128
  let main_v9 : FVec F S128 .f32 := subf main_v6 main_v8
  let main_v10 : FVec F S128 .f32 := mulf main_v4 main_v9
  let main_v11 : FVec F S20000x1 .f32 := (extractStridedSlice S20000x1 ![0, 2] · slices_S20000x4_S20000x1_0_2) main_arg0
  let main_v12 : FVec F S20000 .f32 := shapeCast S20000 main_v11 shapeCasts_S20000x1_S20000
  let main_v13 : FVec F S20000x1 .f32 := (extractStridedSlice S20000x1 ![0, 0] · slices_S20000x4_S20000x1_0_0) main_arg0
  let main_v14 : FVec F S20000 .f32 := shapeCast S20000 main_v13 shapeCasts_S20000x1_S20000
  let main_v15 : FVec F S20000 .f32 := subf main_v12 main_v14
  let main_v16 : FVec F S20000x1 .f32 := (extractStridedSlice S20000x1 ![0, 3] · slices_S20000x4_S20000x1_0_3) main_arg0
  let main_v17 : FVec F S20000 .f32 := shapeCast S20000 main_v16 shapeCasts_S20000x1_S20000
  let main_v18 : FVec F S20000x1 .f32 := (extractStridedSlice S20000x1 ![0, 1] · slices_S20000x4_S20000x1_0_1) main_arg0
  let main_v19 : FVec F S20000 .f32 := shapeCast S20000 main_v18 shapeCasts_S20000x1_S20000
  let main_v20 : FVec F S20000 .f32 := subf main_v17 main_v19
  let main_v21 : FVec F S20000 .f32 := mulf main_v15 main_v20
  let main_v22 : FVec F S128x1 .f32 := broadcastInDim S128x1 ![0] bcast_S128_S128x1_0 main_v10
  let main_v23 : FVec F S1x20000 .f32 := broadcastInDim S1x20000 ![1] bcast_S20000_S1x20000_1 main_v21
  fn_part1 (F := F) main_v22 main_v23
-- ==== Kernel.lean ====
abbrev S20000x4 : Shape := ⟨2, ![20000, 4]⟩
abbrev S128x4 : Shape := ⟨2, ![128, 4]⟩
abbrev S128 : Shape := ⟨1, ![128]⟩
abbrev S_ : Shape := ⟨0, ![]⟩
abbrev S480x4 : Shape := ⟨2, ![480, 4]⟩
abbrev S20480x4 : Shape := ⟨2, ![20480, 4]⟩
abbrev S81920 : Shape := ⟨1, ![81920]⟩
abbrev S512 : Shape := ⟨1, ![512]⟩
abbrev S20480 : Shape := ⟨1, ![20480]⟩
abbrev S2560 : Shape := ⟨1, ![2560]⟩
abbrev S640 : Shape := ⟨1, ![640]⟩
abbrev S16 : Shape := ⟨1, ![16]⟩
abbrev S20000 : Shape := ⟨1, ![20000]⟩

abbrev nBuf : Table → Nat
  | .hbm => 14
  | .local .scVector .vmem => 6
  | _ => 0

abbrev bufTy : (tb : Table) → Fin (nBuf tb) → BufTy
  | .hbm, ⟨0, _⟩ => ⟨S20000x4, .f32⟩
  | .hbm, ⟨1, _⟩ => ⟨S128x4, .f32⟩
  | .hbm, ⟨2, _⟩ => ⟨S128, .i32⟩
  | .hbm, ⟨3, _⟩ => ⟨S_, .f32⟩
  | .hbm, ⟨4, _⟩ => ⟨S480x4, .f32⟩
  | .hbm, ⟨5, _⟩ => ⟨S20480x4, .f32⟩
  | .hbm, ⟨6, _⟩ => ⟨S81920, .f32⟩
  | .hbm, ⟨7, _⟩ => ⟨S512, .f32⟩
  | .hbm, ⟨8, _⟩ => ⟨S20480, .i32⟩
  | .hbm, ⟨9, _⟩ => ⟨S20480, .f32⟩
  | .hbm, ⟨10, _⟩ => ⟨S20480, .i32⟩
  | .hbm, ⟨11, _⟩ => ⟨S20000, .i32⟩
  | .hbm, ⟨12, _⟩ => ⟨S20000, .f32⟩
  | .hbm, ⟨13, _⟩ => ⟨S20000, .i32⟩
  | .local .scVector .vmem, ⟨0, _⟩ => ⟨S2560, .f32⟩
  | .local .scVector .vmem, ⟨1, _⟩ => ⟨S512, .f32⟩
  | .local .scVector .vmem, ⟨2, _⟩ => ⟨S128, .i32⟩
  | .local .scVector .vmem, ⟨3, _⟩ => ⟨S640, .i32⟩
  | .local .scVector .vmem, ⟨4, _⟩ => ⟨S640, .f32⟩
  | .local .scVector .vmem, ⟨5, _⟩ => ⟨S640, .i32⟩
  | _, _ => ⟨S20000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v2_scv : Ref sig .scVector := ⟨.hbm, 6, rfl⟩
abbrev main_v3_scv : Ref sig .scVector := ⟨.hbm, 7, rfl⟩
abbrev main_arg2_scv : Ref sig .scVector := ⟨.hbm, 2, rfl⟩
abbrev main_v4_0_scv : Ref sig .scVector := ⟨.hbm, 8, rfl⟩
abbrev main_v4_1_scv : Ref sig .scVector := ⟨.hbm, 9, rfl⟩
abbrev main_v4_2_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c4_i32 : BitVec 32 := 4#32
  let v3 : BitVec 32 := Scalar.muli v2 c4_i32
  ![v3.toNat]
@[reducible] def k0_t1_loop : Scf.Loop 32 :=
  let c0_i32_0 : BitVec 32 := 0#32
  let c40_i32 : BitVec 32 := 40#32
  let v4 : BitVec 32 := Scalar.addi c0_i32_0 c40_i32
  let c1_i32 : BitVec 32 := 1#32
  ⟨c0_i32_0, v4, c1_i32⟩

def k0_chk1 (v11 : IVec S16 32) : Prop :=
  (∀ a x, ((![v11] : Fin 1 → IVec S16 32) a x).toNat < S2560.size a)
theorem k0_idx1_inb : ∀ (v11 : IVec S16 32) (k0_hw1 : k0_chk1 v11), ∀ a x, ((![v11] : Fin 1 → IVec S16 32) a x).toNat < S2560.size a := fun v11 k0_hw1 => k0_hw1

def k0_chk2 (v14 : IVec S16 32) : Prop :=
  (∀ a x, ((![v14] : Fin 1 → IVec S16 32) a x).toNat < S2560.size a)
theorem k0_idx2_inb : ∀ (v14 : IVec S16 32) (k0_hw2 : k0_chk2 v14), ∀ a x, ((![v14] : Fin 1 → IVec S16 32) a x).toNat < S2560.size a := fun v14 k0_hw2 => k0_hw2

def k0_chk3 (v17 : IVec S16 32) : Prop :=
  (∀ a x, ((![v17] : Fin 1 → IVec S16 32) a x).toNat < S2560.size a)
theorem k0_idx3_inb : ∀ (v17 : IVec S16 32) (k0_hw3 : k0_chk3 v17), ∀ a x, ((![v17] : Fin 1 → IVec S16 32) a x).toNat < S2560.size a := fun v17 k0_hw3 => k0_hw3

def k0_chk4 (v20 : IVec S16 32) : Prop :=
  (∀ a x, ((![v20] : Fin 1 → IVec S16 32) a x).toNat < S2560.size a)
theorem k0_idx4_inb : ∀ (v20 : IVec S16 32) (k0_hw4 : k0_chk4 v20), ∀ a x, ((![v20] : Fin 1 → IVec S16 32) a x).toNat < S2560.size a := fun v20 k0_hw4 => k0_hw4
@[reducible] def k0_t2_loop : Scf.Loop 32 :=
  let c0_i32_6 : BitVec 32 := 0#32
  let c128_i32 : BitVec 32 := 128#32
  let v27 : BitVec 32 := Scalar.addi c0_i32_6 c128_i32
  let c1_i32_7 : BitVec 32 := 1#32
  ⟨c0_i32_6, v27, c1_i32_7⟩

def k0_chk5 (v45 : IVec S16 32) : Prop :=
  (∀ a x, ((![v45] : Fin 1 → IVec S16 32) a x).toNat < S512.size a)
theorem k0_idx5_inb : ∀ (v45 : IVec S16 32) (k0_hw5 : k0_chk5 v45), ∀ a x, ((![v45] : Fin 1 → IVec S16 32) a x).toNat < S512.size a := fun v45 k0_hw5 => k0_hw5

def k0_chk6 (v48 : IVec S16 32) : Prop :=
  (∀ a x, ((![v48] : Fin 1 → IVec S16 32) a x).toNat < S512.size a)
theorem k0_idx6_inb : ∀ (v48 : IVec S16 32) (k0_hw6 : k0_chk6 v48), ∀ a x, ((![v48] : Fin 1 → IVec S16 32) a x).toNat < S512.size a := fun v48 k0_hw6 => k0_hw6

def k0_chk7 (v51 : IVec S16 32) : Prop :=
  (∀ a x, ((![v51] : Fin 1 → IVec S16 32) a x).toNat < S512.size a)
theorem k0_idx7_inb : ∀ (v51 : IVec S16 32) (k0_hw7 : k0_chk7 v51), ∀ a x, ((![v51] : Fin 1 → IVec S16 32) a x).toNat < S512.size a := fun v51 k0_hw7 => k0_hw7

def k0_chk8 (v54 : IVec S16 32) : Prop :=
  (∀ a x, ((![v54] : Fin 1 → IVec S16 32) a x).toNat < S512.size a)
theorem k0_idx8_inb : ∀ (v54 : IVec S16 32) (k0_hw8 : k0_chk8 v54), ∀ a x, ((![v54] : Fin 1 → IVec S16 32) a x).toNat < S512.size a := fun v54 k0_hw8 => k0_hw8

def k0_chk9 (v32 : IVec S16 32) : Prop :=
  (∀ a x, ((![v32] : Fin 1 → IVec S16 32) a x).toNat < S128.size a)
theorem k0_idx9_inb : ∀ (v32 : IVec S16 32) (k0_hw9 : k0_chk9 v32), ∀ a x, ((![v32] : Fin 1 → IVec S16 32) a x).toNat < S128.size a := fun v32 k0_hw9 => k0_hw9
def k0_off2 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32_11 : BitVec 32 := 16#32
  let v35 : BitVec 32 := Scalar.muli arg14 c16_i32_11
  let v36 : Index := Scalar.indexCast v35
  ![v36.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S128x4 : Shape := ⟨2, ![128, 4]⟩
abbrev S128 : Shape := ⟨1, ![128]⟩
abbrev S128x1 : Shape := ⟨2, ![128, 1]⟩
abbrev S20000x1 : Shape := ⟨2, ![20000, 1]⟩
abbrev S20000 : Shape := ⟨1, ![20000]⟩
abbrev S128x2 : Shape := ⟨2, ![128, 2]⟩
abbrev S128x1x2 : Shape := ⟨3, ![128, 1, 2]⟩
abbrev S20000x2 : Shape := ⟨2, ![20000, 2]⟩
abbrev S1x20000x2 : Shape := ⟨3, ![1, 20000, 2]⟩
abbrev S128x20000x2 : Shape := ⟨3, ![128, 20000, 2]⟩
abbrev S_ : Shape := ⟨0, ![]⟩
abbrev S128x20000x1 : Shape := ⟨3, ![128, 20000, 1]⟩
abbrev S128x20000 : Shape := ⟨2, ![128, 20000]⟩
abbrev S1x20000 : Shape := ⟨2, ![1, 20000]⟩
abbrev S1 : Shape := ⟨1, ![1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S20000x4, .f32⟩
  | .hbm, ⟨1, _⟩ => ⟨S128x4, .f32⟩
  | .hbm, ⟨2, _⟩ => ⟨S128, .i32⟩
  | .hbm, ⟨3, _⟩ => ⟨S128x1, .f32⟩
  | .hbm, ⟨4, _⟩ => ⟨S128, .f32⟩
  | .hbm, ⟨5, _⟩ => ⟨S128x1, .f32⟩
  | .hbm, ⟨6, _⟩ => ⟨S128, .f32⟩
  | .hbm, ⟨7, _⟩ => ⟨S128, .f32⟩
  | .hbm, ⟨8, _⟩ => ⟨S128x1, .f32⟩
  | .hbm, ⟨9, _⟩ => ⟨S128, .f32⟩
  | .hbm, ⟨10, _⟩ => ⟨S128x1, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S20000x1, .f32⟩
  | .hbm, ⟨15, _⟩ => ⟨S20000, .f32⟩
  | .hbm, ⟨16, _⟩ => ⟨S20000x1, .f32⟩
  | .hbm, ⟨17, _⟩ => ⟨S20000, .f32⟩
  | .hbm, ⟨18, _⟩ => ⟨S20000, .f32⟩
  | .hbm, ⟨19, _⟩ => ⟨S20000x1, .f32⟩
  | .hbm, ⟨20, _⟩ => ⟨S20000, .f32⟩
  | .hbm, ⟨21, _⟩ => ⟨S20000x1, .f32⟩
  | .hbm, ⟨22, _⟩ => ⟨S20000, .f32⟩
  | .hbm, ⟨23, _⟩ => ⟨S20000, .f32⟩
  | .hbm, ⟨24, _⟩ => ⟨S20000, .f32⟩
  | .hbm, ⟨25, _⟩ => ⟨S128x2, .f32⟩
  | .hbm, ⟨26, _⟩ => ⟨S128x1x2, .f32⟩
  | .hbm, ⟨27, _⟩ => ⟨S20000x2, .f32⟩
  | .hbm, ⟨28, _⟩ => ⟨S1x20000x2, .f32⟩
  | .hbm, ⟨29, _⟩ => ⟨S128x20000x2, .f32⟩
  | .hbm, ⟨30, _⟩ => ⟨S128x20000x2, .f32⟩
  | .hbm, ⟨31, _⟩ => ⟨S128x20000x2, .f32⟩
  | .hbm, ⟨32, _⟩ => ⟨S128x2, .f32⟩
  | .hbm, ⟨33, _⟩ => ⟨S128x1x2, .f32⟩
  | .hbm, ⟨34, _⟩ => ⟨S20000x2, .f32⟩
  | .hbm, ⟨35, _⟩ => ⟨S1x20000x2, .f32⟩
  | .hbm, ⟨36, _⟩ => ⟨S128x20000x2, .f32⟩
  | .hbm, ⟨37, _⟩ => ⟨S128x20000x2, .f32⟩
  | .hbm, ⟨38, _⟩ => ⟨S128x20000x2, .f32⟩
  | .hbm, ⟨39, _⟩ => ⟨S128x20000x2, .f32⟩
  | .hbm, ⟨40, _⟩ => ⟨S_, .f32⟩
  | .hbm, ⟨41, _⟩ => ⟨S_, .f32⟩
  | .hbm, ⟨42, _⟩ => ⟨S128x20000x2, .f32⟩
  | .hbm, ⟨43, _⟩ => ⟨S128x20000x2, .f32⟩
  | .hbm, ⟨44, _⟩ => ⟨S128x20000x1, .f32⟩
  | .hbm, ⟨45, _⟩ => ⟨S128x20000, .f32⟩
  | .hbm, ⟨46, _⟩ => ⟨S128x20000x1, .f32⟩
  | .hbm, ⟨47, _⟩ => ⟨S128x20000, .f32⟩
  | .hbm, ⟨48, _⟩ => ⟨S128x20000, .f32⟩
  | .hbm, ⟨49, _⟩ => ⟨S128x1, .f32⟩
  | .hbm, ⟨50, _⟩ => ⟨S1x20000, .f32⟩
  | .hbm, ⟨51, _⟩ => ⟨S128x20000, .f32⟩
  | .hbm, ⟨52, _⟩ => ⟨S128x20000, .f32⟩
  | .hbm, ⟨53, _⟩ => ⟨S128x20000, .f32⟩
  | .hbm, ⟨54, _⟩ => ⟨S128x20000, .f32⟩
  | .hbm, ⟨55, _⟩ => ⟨S128x20000, .f32⟩
  | .hbm, ⟨56, _⟩ => ⟨S_, .f32⟩
  | .hbm, ⟨57, _⟩ => ⟨S20000, .f32⟩
  | .hbm, ⟨58, _⟩ => ⟨S128x20000, .i32⟩
  | .hbm, ⟨59, _⟩ => ⟨S_, .f32⟩
  | .hbm, ⟨60, _⟩ => ⟨S_, .i32⟩
  | .hbm, ⟨61, _⟩ => ⟨S20000, .f32⟩
  | .hbm, ⟨62, _⟩ => ⟨S20000, .i32⟩
  | .hbm, ⟨63, _⟩ => ⟨S_, .f32⟩
  | .hbm, ⟨64, _⟩ => ⟨S20000, .f32⟩
  | .hbm, ⟨65, _⟩ => ⟨S20000, .i1⟩
  | .hbm, ⟨66, _⟩ => ⟨S_, .f32⟩
  | .hbm, ⟨67, _⟩ => ⟨S20000, .f32⟩
  | .hbm, ⟨68, _⟩ => ⟨S20000, .i1⟩
  | .hbm, ⟨69, _⟩ => ⟨S_, .f32⟩
  | .hbm, ⟨70, _⟩ => ⟨S20000, .f32⟩
  | .hbm, ⟨71, _⟩ => ⟨S20000, .i1⟩
  | .hbm, ⟨72, _⟩ => ⟨S20000, .i1⟩
  | .hbm, ⟨73, _⟩ => ⟨S_, .i32⟩
  | .hbm, ⟨74, _⟩ => ⟨S_, .i32⟩
  | .hbm, ⟨75, _⟩ => ⟨S20000, .i32⟩
  | .hbm, ⟨76, _⟩ => ⟨S20000, .i32⟩
  | .hbm, ⟨77, _⟩ => ⟨S_, .i32⟩
  | .hbm, ⟨78, _⟩ => ⟨S_, .i32⟩
  | .hbm, ⟨79, _⟩ => ⟨S20000, .i32⟩
  | .hbm, ⟨80, _⟩ => ⟨S20000, .i32⟩
  | .hbm, ⟨81, _⟩ => ⟨S_, .i32⟩
  | .hbm, ⟨82, _⟩ => ⟨S_, .i32⟩
  | .hbm, ⟨83, _⟩ => ⟨S20000, .i32⟩
  | .hbm, ⟨84, _⟩ => ⟨S20000, .i32⟩
  | .hbm, ⟨85, _⟩ => ⟨S_, .i32⟩
  | .hbm, ⟨86, _⟩ => ⟨S20000, .i32⟩
  | .hbm, ⟨87, _⟩ => ⟨S20000, .i1⟩
  | .hbm, ⟨88, _⟩ => ⟨S_, .i32⟩
  | .hbm, ⟨89, _⟩ => ⟨S20000, .i32⟩
  | .hbm, ⟨90, _⟩ => ⟨S20000, .i32⟩
  | .hbm, ⟨91, _⟩ => ⟨S20000, .i32⟩
  | .hbm, ⟨92, _⟩ => ⟨S20000x1, .i32⟩
  | .hbm, ⟨93, _⟩ => ⟨S1, .i32⟩
  | .hbm, ⟨94, _⟩ => ⟨S_, .i32⟩
  | .hbm, ⟨95, _⟩ => ⟨S20000x1, .i32⟩
  | .hbm, ⟨96, _⟩ => ⟨S20000x1, .i1⟩
  | .hbm, ⟨97, _⟩ => ⟨S1x1, .i32⟩
  | .hbm, ⟨98, _⟩ => ⟨S20000x1, .i32⟩
  | .hbm, ⟨99, _⟩ => ⟨S20000x1, .i1⟩
  | .hbm, ⟨100, _⟩ => ⟨S20000x1, .i1⟩
  | .hbm, ⟨101, _⟩ => ⟨S_, .i1⟩
  | .hbm, ⟨102, _⟩ => ⟨S20000, .i1⟩
  | .hbm, ⟨103, _⟩ => ⟨S20000, .i32⟩
  | .hbm, ⟨104, _⟩ => ⟨S_, .i32⟩
  | .hbm, ⟨105, _⟩ => ⟨S20000, .i32⟩
  | .hbm, ⟨106, _⟩ => ⟨S20000, .i32⟩
  | .hbm, ⟨107, _⟩ => ⟨S_, .i32⟩
  | .hbm, ⟨108, _⟩ => ⟨S20000, .i32⟩
  | .hbm, ⟨109, _⟩ => ⟨S20000, .i1⟩
  | .hbm, ⟨110, _⟩ => ⟨S_, .i32⟩
  | .hbm, ⟨111, _⟩ => ⟨S_, .i32⟩
  | .hbm, ⟨112, _⟩ => ⟨S20000, .i32⟩
  | .hbm, ⟨113, _⟩ => ⟨S20000, .i32⟩
  | .hbm, ⟨114, _⟩ => ⟨S_, .i32⟩
  | .hbm, ⟨115, _⟩ => ⟨S20000, .i32⟩
  | .hbm, ⟨116, _⟩ => ⟨S20000, .i1⟩
  | .hbm, ⟨117, _⟩ => ⟨S_, .i32⟩
  | .hbm, ⟨118, _⟩ => ⟨S_, .i32⟩
  | .hbm, ⟨119, _⟩ => ⟨S20000, .i32⟩
  | .hbm, ⟨120, _⟩ => ⟨S20000, .i32⟩
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst : Ref sig .tc := ⟨.hbm, 40, rfl⟩
abbrev main_call0_v0 : Ref sig .tc := ⟨.hbm, 41, rfl⟩
abbrev main_call0_v1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_0 : Ref sig .tc := ⟨.hbm, 56, rfl⟩
abbrev main_v50 : Ref sig .tc := ⟨.hbm, 57, rfl⟩
abbrev main_call1_v0 : Ref sig .tc := ⟨.hbm, 58, rfl⟩
abbrev main_call1_cst : Ref sig .tc := ⟨.hbm, 59, rfl⟩
abbrev main_call1_c : Ref sig .tc := ⟨.hbm, 60, rfl⟩
abbrev main_call1_v1_0 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call2_v0 : Ref sig .tc := ⟨.hbm, 74, rfl⟩
abbrev main_call2_v1 : Ref sig .tc := ⟨.hbm, 75, rfl⟩
abbrev main_v59 : Ref sig .tc := ⟨.hbm, 76, rfl⟩
abbrev main_c_4 : Ref sig .tc := ⟨.hbm, 77, rfl⟩
abbrev main_call3_v0 : Ref sig .tc := ⟨.hbm, 78, rfl⟩
abbrev main_call3_v1 : Ref sig .tc := ⟨.hbm, 79, rfl⟩
abbrev main_v60 : Ref sig .tc := ⟨.hbm, 80, rfl⟩
abbrev main_c_5 : Ref sig .tc := ⟨.hbm, 81, rfl⟩
abbrev main_call4_v0 : Ref sig .tc := ⟨.hbm, 82, rfl⟩
abbrev main_call4_v1 : Ref sig .tc := ⟨.hbm, 83, rfl⟩
abbrev main_v61 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_c_4 : Ref sig .tc := ⟨.hbm, 104, rfl⟩
abbrev main_call5_v14 : Ref sig .tc := ⟨.hbm, 105, rfl⟩
abbrev main_v62 : Ref sig .tc := ⟨.hbm, 106, rfl⟩
abbrev main_c_6 : Ref sig .tc := ⟨.hbm, 107, rfl⟩
abbrev main_v63 : Ref sig .tc := ⟨.hbm, 108, rfl⟩
abbrev main_v64 : Ref sig .tc := ⟨.hbm, 109, rfl⟩
abbrev main_c_7 : Ref sig .tc := ⟨.hbm, 110, rfl⟩
abbrev main_call6_v0 : Ref sig .tc := ⟨.hbm, 111, rfl⟩
abbrev main_call6_v1 : Ref sig .tc := ⟨.hbm, 112, rfl⟩
abbrev main_v65 : Ref sig .tc := ⟨.hbm, 113, rfl⟩
abbrev main_c_8 : Ref sig .tc := ⟨.hbm, 114, rfl⟩
abbrev main_v66 : Ref sig .tc := ⟨.hbm, 115, rfl⟩
abbrev main_v67 : Ref sig .tc := ⟨.hbm, 116, rfl⟩
abbrev main_c_9 : Ref sig .tc := ⟨.hbm, 117, rfl⟩
abbrev main_call7_v0 : Ref sig .tc := ⟨.hbm, 118, rfl⟩
abbrev main_call7_v1 : Ref sig .tc := ⟨.hbm, 119, rfl⟩
abbrev main_v68 : Ref sig .tc := ⟨.hbm, 120, rfl⟩

abbrev nD : Nat := 1
abbrev τ : Topo := Topo.v7x

variable {F : FTy → Type} [FloatOps F]
-- ==== Proof.Spec.lean ====
/-
  What the matcher computes, over any float arithmetic and with no program in sight. Boxes come as flat lists of words, four
  to a box. For one proposal the ground-truth boxes are met in order; a running best overlap is kept together with the number
  of the box it was met at, and a later box replaces it only where it is strictly greater. Three answers per proposal: the best overlap,
  the number of its box (0 below the threshold one half), and that box's label (0 below the threshold).
-/
module

public import Idealize.ShloMosaic.PureOps
public import Idealize.ShloMosaic.Lib.SortFacts

@[expose] public section

noncomputable section

namespace Cert.Proof.Matcher

open Idealize.ShloMosaic

/-- Word `k` of a list of `n` words (the list read round and round beyond its end, so that it has a word at every number). -/
def word {α : Type} {n : ℕ} [NeZero n] (f : (⟨1, ![n]⟩ : Shape).Idx → α) (k : ℕ) : α := f (Shape.Idx.ofFin (Fin.ofNat n k))

/-- A list's word at a position is the list at the position. -/
theorem word_val {α : Type} {n : ℕ} [NeZero n] (f : (⟨1, ![n]⟩ : Shape).Idx → α) (x : (⟨1, ![n]⟩ : Shape).Idx) :
    word f (x 0).val = f x := by
  unfold word
  rw [Shape.Idx.eq_ofFin x]
  exact congrArg (fun k => f (Shape.Idx.ofFin k)) (Fin.ext (Nat.mod_eq_of_lt (x 0).isLt))

/-- The same, for a number known to be the position's. -/
theorem word_of_eq {α : Type} {n : ℕ} [NeZero n] (f : (⟨1, ![n]⟩ : Shape).Idx → α) (x : (⟨1, ![n]⟩ : Shape).Idx) {k : ℕ}
    (h : (x 0).val = k) : word f k = f x := h ▸ word_val f x

variable {F : FTy → Type} [FloatOps F]

/-- The intersection over the union of a proposal box and a ground-truth box, each given by its corners. -/
def overlap (p0 p1 p2 p3 g0 g1 g2 g3 : F .f32) : F .f32 :=
  let w := FloatOps.maximumf (FloatOps.subf (FloatOps.minimumf p2 g2) (FloatOps.maximumf p0 g0)) (FloatOps.ofBits .f32 0x00000000#32)
  let h := FloatOps.maximumf (FloatOps.subf (FloatOps.minimumf p3 g3) (FloatOps.maximumf p1 g1)) (FloatOps.ofBits .f32 0x00000000#32)
  let inter := FloatOps.mulf w h
  FloatOps.divf inter (FloatOps.subf
    (FloatOps.addf (FloatOps.mulf (FloatOps.subf p2 p0) (FloatOps.subf p3 p1)) (FloatOps.mulf (FloatOps.subf g2 g0) (FloatOps.subf g3 g1)))
    inter)

/-- The overlap of proposal `q` and ground-truth box `g`, the boxes in flat lists of words. -/
def score {n m : ℕ} [NeZero n] [NeZero m] (P : (⟨1, ![n]⟩ : Shape).Idx → F .f32) (G : (⟨1, ![m]⟩ : Shape).Idx → F .f32) (q g : ℕ) : F .f32 :=
  overlap (word P (q * 4)) (word P (q * 4 + 1)) (word P (q * 4 + 2)) (word P (q * 4 + 3))
    (word G (g * 4)) (word G (g * 4 + 1)) (word G (g * 4 + 2)) (word G (g * 4 + 3))

/-- The running best after the first `n` of the scores `u`, with the number of the score it was met at. -/
def sweep (u : ℕ → F .f32) : ℕ → F .f32 × BitVec 32
  | 0 => (FloatOps.ofBits .f32 0xBF800000#32, 0#32)
  | n + 1 =>
    (Scalar.select (FloatOps.cmpf .ogt (u n) (sweep u n).1) (u n) (sweep u n).1,
      Scalar.select (FloatOps.cmpf .ogt (u n) (sweep u n).1) (BitVec.ofNat 32 n) (sweep u n).2)

/-- The sweep's number is one of the boxes met. -/
theorem sweep_lt (u : ℕ → F .f32) (n : ℕ) (hn : n ≤ 128) : (sweep u n).2.toNat < 128 := by
  induction n with
  | zero => show (0#32).toNat < 128; decide
  | succ n ih =>
    unfold sweep Scalar.select
    dsimp only
    split
    · rw [BitVec.toNat_ofNat, Nat.mod_eq_of_lt (by omega)]; omega
    · exact ih (by omega)

/-- The best overlap of a proposal. -/
def best (u : ℕ → F .f32) : F .f32 := (sweep u 128).1

/-- Whether the best overlap is below the threshold one half. -/
def low (u : ℕ → F .f32) : BitVec 1 := FloatOps.cmpf .olt (best u) (FloatOps.ofBits .f32 0x3F000000#32)

/-- The number of a proposal's box: the best overlap's, 0 below the threshold. -/
def pick (u : ℕ → F .f32) : BitVec 32 := Scalar.select (low u) 0#32 (sweep u 128).2

/-- A proposal's label: its box's, 0 below the threshold. -/
def label (T : (⟨1, ![128]⟩ : Shape).Idx → BitVec 32) (u : ℕ → F .f32) : BitVec 32 :=
  Scalar.select (low u) 0#32 (word T (pick u).toNat)

theorem pick_lt (u : ℕ → F .f32) : (pick u).toNat < 128 := by
  unfold pick Scalar.select
  split
  · decide
  · exact sweep_lt u 128 (le_refl _)

end Cert.Proof.Matcher

end
-- ==== Proof.IdealSweep.lean ====
/-
  The work of one vector subcore on its 640 proposals. Sixteen proposals at a time, their corners are gathered out of the subcore's
  own copy of the boxes and swept against the 128 ground-truth boxes; the three results of the sixteen are stored in the
  subcore's scratches. Both loops are run by an invariant that carries the VALUES: after `n` boxes the registers hold the sweep over the
  first `n`, lane by lane, and after `j` trips the first `16 j` results of each kind are the specification's.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Spec
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Matcher

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the memrefs the kernel is called with: the two lists of boxes and the table of labels, the three results, the six scratches
local notation "pV" => (Memref.whole Cert.KernelIdeal.main_v2_scv : Memref Cert.KernelIdeal.sig Kind.scVector Space.hbm Cert.KernelIdeal.S81920 EltTy.f32)
local notation "gV" => (Memref.whole Cert.KernelIdeal.main_v3_scv : Memref Cert.KernelIdeal.sig Kind.scVector Space.hbm Cert.KernelIdeal.S512 EltTy.f32)
local notation "tV" => (Memref.whole Cert.KernelIdeal.main_arg2_scv : Memref Cert.KernelIdeal.sig Kind.scVector Space.hbm Cert.KernelIdeal.S128 EltTy.i32)
local notation "lV" => (Memref.whole Cert.KernelIdeal.main_v4_0_scv : Memref Cert.KernelIdeal.sig Kind.scVector Space.hbm Cert.KernelIdeal.S20480 EltTy.i32)
local notation "bV" => (Memref.whole Cert.KernelIdeal.main_v4_1_scv : Memref Cert.KernelIdeal.sig Kind.scVector Space.hbm Cert.KernelIdeal.S20480 EltTy.f32)
local notation "iV" => (Memref.whole Cert.KernelIdeal.main_v4_2_scv : Memref Cert.KernelIdeal.sig Kind.scVector Space.hbm Cert.KernelIdeal.S20480 EltTy.i32)
local notation "sP" => (Memref.whole Cert.KernelIdeal.cc0_scratch0 : Memref Cert.KernelIdeal.sig Kind.scVector Space.vmem Cert.KernelIdeal.S2560 EltTy.f32)
local notation "sG" => (Memref.whole Cert.KernelIdeal.cc0_scratch1 : Memref Cert.KernelIdeal.sig Kind.scVector Space.vmem Cert.KernelIdeal.S512 EltTy.f32)
local notation "sT" => (Memref.whole Cert.KernelIdeal.cc0_scratch2 : Memref Cert.KernelIdeal.sig Kind.scVector Space.vmem Cert.KernelIdeal.S128 EltTy.i32)
local notation "sL" => (Memref.whole Cert.KernelIdeal.cc0_scratch3 : Memref Cert.KernelIdeal.sig Kind.scVector Space.vmem Cert.KernelIdeal.S640 EltTy.i32)
local notation "sB" => (Memref.whole Cert.KernelIdeal.cc0_scratch4 : Memref Cert.KernelIdeal.sig Kind.scVector Space.vmem Cert.KernelIdeal.S640 EltTy.f32)
local notation "sI" => (Memref.whole Cert.KernelIdeal.cc0_scratch5 : Memref Cert.KernelIdeal.sig Kind.scVector Space.vmem Cert.KernelIdeal.S640 EltTy.i32)

/-! ## The positions the indexed loads read -/

theorem trips1 : k0_t1_loop.trips = 40 := by decide
theorem trips2 : k0_t2_loop.trips = 128 := by decide

/-- A loop's counter as a word. -/
theorem iv_toNat {n : ℕ} (hn : n ≤ 128) (k : Fin n) : (Scf.iv 0#32 1#32 k.val).toNat = k.val := by
  have := k.isLt
  simp only [Scf.iv, BitVec.toNat_add, BitVec.toNat_mul, BitVec.toNat_ofNat]
  omega

/-- Trip `j` of the outer loop reads from word `4 * (16 j + x)` on, at lane `x`. -/
theorem pay1_toNat (j : Fin k0_t1_loop.trips) (x : S16.Idx) : (k0_pay1 0#32 1#32 j x).toNat = (16 * j.val + (x 0).val) * 4 := by
  have hj : j.val < 40 := trips1 ▸ j.isLt
  have hx : (x 0).val < 16 := (x 0).isLt
  show ((BitVec.ofNat 32 (0 * 16 + (x 0).val) + (Scf.iv 0#32 1#32 j.val) * 16#32) * 4#32).toNat = _
  simp only [BitVec.toNat_add, BitVec.toNat_mul, BitVec.toNat_ofNat, iv_toNat (n := k0_t1_loop.trips) (by decide) j]
  omega

/-- A word that many places further on. -/
theorem add_toNat {v : IVec S16 32} {x : S16.Idx} {a : ℕ} (h : (v x).toNat = a) (c : ℕ) (hc : c < 4) (ha : a < 2560) :
    (v x + BitVec.ofNat 32 c).toNat = a + c := by
  simp only [BitVec.toNat_add, BitVec.toNat_ofNat, h]
  omega

/-- An indexed load out of a rank-one buffer reads, at each lane, the word its index names. -/
theorem loadIdx_word {α : EltTy} {n : ℕ} [NeZero n] (f : Vec F ⟨1, ![n]⟩ α) (v : IVec S16 32) (h : ∀ a x, ((![v] : Fin 1 → IVec S16 32) a x).toNat < (⟨1, ![n]⟩ : Shape).size a)
    (x : S16.Idx) : loadIdx (F := F) f ![v] h x = word f (v x).toNat :=
  (word_of_eq f (idxAt ![v] h x) rfl).symm

/-! ## One trip of the sweep over the ground-truth boxes -/

variable [FloatOps F]

/-- Lane `x` of a register vector of the boxes of sixteen proposals from `16 j` on: their words number `c`. -/
def lanes (fp : Vec F S2560 .f32) (j c : ℕ) : Vec F S16 .f32 := fun x => word fp ((16 * j + (x 0).val) * 4 + c)

/-- The sixteen sweeps of outer trip `j` after `n` boxes, lane by lane. -/
def Swept (fp : Vec F S2560 .f32) (fg : Vec F S512 .f32) (j n : ℕ) (acc : FVec F S16 .f32 × IVec S16 32) : Prop :=
  ∀ x, acc.1 x = (sweep (score fp fg (16 * j + (x 0).val)) n).1 ∧ acc.2 x = (sweep (score fp fg (16 * j + (x 0).val)) n).2

theorem swept_zero (fp : Vec F S2560 .f32) (fg : Vec F S512 .f32) (j : ℕ) : Swept fp fg j 0 (k0_pay5 (F := F), k0_pay6) := fun _ => ⟨rfl, rfl⟩

theorem swept_succ (fp : Vec F S2560 .f32) (fg : Vec F S512 .f32) (j : ℕ) (n : Fin k0_t2_loop.trips) (acc : FVec F S16 .f32 × IVec S16 32)
    (h : Swept fp fg j n.val acc) {w0 w1 w2 w3 : Vec F S16 .f32} (h0 : ∀ x, w0 x = word fg (n.val * 4)) (h1 : ∀ x, w1 x = word fg (n.val * 4 + 1))
    (h2 : ∀ x, w2 x = word fg (n.val * 4 + 2)) (h3 : ∀ x, w3 x = word fg (n.val * 4 + 3)) :
    Swept fp fg j (n.val + 1) (k0_pay12 (lanes fp j 0) (lanes fp j 1) (lanes fp j 2) (lanes fp j 3) acc.1 w0 w1 w2 w3,
      k0_pay13 (lanes fp j 0) (lanes fp j 1) (lanes fp j 2) (lanes fp j 3) n acc.1 acc.2 w0 w1 w2 w3) := by
  intro x
  obtain ⟨ha, hb⟩ := h x
  have hu : k0_pay10 (lanes fp j 0) (lanes fp j 1) (lanes fp j 2) (lanes fp j 3) w0 w1 w2 w3 x = score fp fg (16 * j + (x 0).val) n.val := by
    show overlap (word fp ((16 * j + (x 0).val) * 4 + 0)) (word fp ((16 * j + (x 0).val) * 4 + 1)) (word fp ((16 * j + (x 0).val) * 4 + 2))
      (word fp ((16 * j + (x 0).val) * 4 + 3)) (w0 x) (w1 x) (w2 x) (w3 x) = _
    rw [h0, h1, h2, h3]; rfl
  have hi : Scf.iv 0#32 1#32 n.val = BitVec.ofNat 32 n.val := by
    apply BitVec.eq_of_toNat_eq
    rw [iv_toNat (n := k0_t2_loop.trips) (by decide) n, BitVec.toNat_ofNat, Nat.mod_eq_of_lt (by have : n.val < 128 := trips2 ▸ n.isLt; omega)]
  have hc : k0_pay11 (lanes fp j 0) (lanes fp j 1) (lanes fp j 2) (lanes fp j 3) acc.1 w0 w1 w2 w3 x
      = FloatOps.cmpf .ogt (score fp fg (16 * j + (x 0).val) n.val) (sweep (score fp fg (16 * j + (x 0).val)) n.val).1 := by
    show FloatOps.cmpf .ogt (k0_pay10 (lanes fp j 0) (lanes fp j 1) (lanes fp j 2) (lanes fp j 3) w0 w1 w2 w3 x) (acc.1 x) = _
    rw [hu, ha]
  constructor
  · show Scalar.select (k0_pay11 (lanes fp j 0) (lanes fp j 1) (lanes fp j 2) (lanes fp j 3) acc.1 w0 w1 w2 w3 x)
      (k0_pay10 (lanes fp j 0) (lanes fp j 1) (lanes fp j 2) (lanes fp j 3) w0 w1 w2 w3 x) (acc.1 x) = _
    rw [hc, hu, ha]; rfl
  · show Scalar.select (k0_pay11 (lanes fp j 0) (lanes fp j 1) (lanes fp j 2) (lanes fp j 3) acc.1 w0 w1 w2 w3 x)
      (Scf.iv 0#32 1#32 n.val) (acc.2 x) = _
    rw [hc, hi, hb]; rfl

section Tile

variable (d : Dev nD) (L : grid0.Coords)

abbrev cV (L : grid0.Coords) : Fin τ.nSC := (L 0).castLE hcore0
abbrev jV (L : grid0.Coords) : Fin τ.nSub := (L 1).castLE hsub0
/-- The vector subcore's thread. -/
abbrev thr (d : Dev nD) (L : grid0.Coords) : Thread nD τ := V d (cV L) (jV L)

/-- A scratch of the subcore, whole. -/
abbrev scr (b : Ref sig .scVector) (f : Buf (Elt F) ((thr d L).loc b)) : sProp 𝕄 := (thr d L).loc b ↦{fullShare} f

/-- One trip of the sweep: sixteen proposals against ground-truth box `n`. -/
theorem t2_trip (fp : Vec F S2560 .f32) (fg : Vec F S512 .f32) (j : Fin k0_t1_loop.trips) (n : Fin k0_t2_loop.trips) (acc : FVec F S16 .f32 × IVec S16 32) :
    iprop(scr d L cc0_scratch1 fg ∗ ⌜Swept fp fg j.val n.val acc⌝)
      ⊢ wp frame (wpE (defs₀ (F := F)) 𝒱₀ (thr d L) none) Set.univ
          (k0_t2_body L pV (Memref.isWhole_whole _) gV (Memref.isWhole_whole _) tV (Memref.isWhole_whole _) lV (Memref.isWhole_whole _)
            bV (Memref.isWhole_whole _) iV (Memref.isWhole_whole _) sP (Memref.isWhole_whole _) sG (Memref.isWhole_whole _) sT (Memref.isWhole_whole _)
            sL (Memref.isWhole_whole _) sB (Memref.isWhole_whole _) sI (Memref.isWhole_whole _) cc0_scoped0 cc0_scoped1 cc0_scoped2 cc0_scoped3 cc0_scoped4 cc0_scoped5
            0#32 1#32 j (lanes fp j.val 0) (lanes fp j.val 1) (lanes fp j.val 2) (lanes fp j.val 3) n acc)
          fun acc' => iprop(scr d L cc0_scratch1 fg ∗ ⌜Swept fp fg j.val (n.val + 1) acc'⌝) := by
  obtain ⟨a1, a2⟩ := acc
  have hn : n.val < 128 := trips2 ▸ n.isLt
  let v45 : IVec S16 32 := broadcast S16 (Scalar.muli (Scf.iv 0#32 1#32 n.val) 4#32)
  have e5 : ∀ x : S16.Idx, (v45 x).toNat = n.val * 4 := fun x => by
    show ((Scf.iv 0#32 1#32 n.val) * 4#32).toNat = _
    simp only [BitVec.toNat_mul, BitVec.toNat_ofNat, iv_toNat (n := k0_t2_loop.trips) (by decide) n]
    omega
  have e6 : ∀ x : S16.Idx, (k0_pay7 v45 x).toNat = n.val * 4 + 1 := fun x => add_toNat (e5 x) 1 (by omega) (by omega)
  have e7 : ∀ x : S16.Idx, (k0_pay8 v45 x).toNat = n.val * 4 + 2 := fun x => add_toNat (e5 x) 2 (by omega) (by omega)
  have e8 : ∀ x : S16.Idx, (k0_pay9 v45 x).toNat = n.val * 4 + 3 := fun x => add_toNat (e5 x) 3 (by omega) (by omega)
  have c5 : k0_chk5 v45 := fun a x => by
    match a with
    | 0 => show (v45 x).toNat < 512; rw [e5]; omega
  have c6 : k0_chk6 (k0_pay7 v45) := fun a x => by
    match a with
    | 0 => show (k0_pay7 v45 x).toNat < 512; rw [e6]; omega
  have c7 : k0_chk7 (k0_pay8 v45) := fun a x => by
    match a with
    | 0 => show (k0_pay8 v45 x).toNat < 512; rw [e7]; omega
  have c8 : k0_chk8 (k0_pay9 v45) := fun a x => by
    match a with
    | 0 => show (k0_pay9 v45 x).toNat < 512; rw [e8]; omega
  iintro ⟨HG, %hs⟩
  unfold k0_t2_body
  simp only [Prog.lift, Prog.bind_op, Prog.bind_ret, Prog.pure_eq_ret]
  rw [wp_assume_of _ _ _ _ c5]
  iapply (SparseCore.wp_vectorLoadIdx 𝒱₀ (thr d L) none Set.univ (base := sG) (S := Finset.univ) (q := fullShare) (Finset.subset_univ _)) $$ HG; iintro HG
  rw [wp_assume_of _ _ _ _ c6]
  iapply (SparseCore.wp_vectorLoadIdx 𝒱₀ (thr d L) none Set.univ (base := sG) (S := Finset.univ) (q := fullShare) (Finset.subset_univ _)) $$ HG; iintro HG
  rw [wp_assume_of _ _ _ _ c7]
  iapply (SparseCore.wp_vectorLoadIdx 𝒱₀ (thr d L) none Set.univ (base := sG) (S := Finset.univ) (q := fullShare) (Finset.subset_univ _)) $$ HG; iintro HG
  rw [wp_assume_of _ _ _ _ c8]
  iapply (SparseCore.wp_vectorLoadIdx 𝒱₀ (thr d L) none Set.univ (base := sG) (S := Finset.univ) (q := fullShare) (Finset.subset_univ _)) $$ HG; iintro HG
  rw [wp_ret]; imodintro
  isplitl [HG]; · iexact HG
  ipureintro
  refine swept_succ fp fg j.val n (a1, a2) hs (fun x => ?_) (fun x => ?_) (fun x => ?_) (fun x => ?_)
  · rw [Memref.read_access_whole, loadIdx_word, e5]
  · rw [Memref.read_access_whole, loadIdx_word, e6]
  · rw [Memref.read_access_whole, loadIdx_word, e7]
  · rw [Memref.read_access_whole, loadIdx_word, e8]

/-! ## One trip of the outer loop: sixteen proposals -/

omit [FloatOps F] in
/-- The first `n` places of a results' scratch hold what they should. -/
def Upto {e : EltTy} (f : Vec F S640 e) (spec : ℕ → Elt F e) (n : ℕ) : Prop := ∀ y : S640.Idx, (y 0).val < n → f y = spec (y 0).val

omit [FloatOps F] in
/-- Storing sixteen right results after the first `16 j` makes the first `16 (j + 1)` right. -/
theorem upto_store {e : EltTy} (v : View sig .scVector .vmem S640 e) (j : Fin k0_t1_loop.trips) (f : v.ty.Contents (Elt F)) (w : S16.Idx → Elt F e)
    (spec : ℕ → Elt F e) (h : Upto (F := F) (v.read (Elt F) f) spec (16 * j.val)) (hw : ∀ x, w x = spec (16 * j.val + (x 0).val)) :
    Upto (F := F) (v.read (Elt F) ((v.slice (Rect.unit (s := S640) (k0_off2 j) S16.size (k0_off2_inb j))).write (Elt F) f w Finset.univ)) spec
      (16 * (j.val + 1)) := by
  intro y hy
  have ho : k0_off2 j 0 = 16 * j.val := by rw [k0_off2_eq]; rfl
  by_cases hlt : (y 0).val < 16 * j.val
  · rw [View.read_slice_write_of_not_mem]
    · exact h y hlt
    · intro hm
      obtain ⟨x, -, rfl⟩ := Finset.mem_map.mp hm
      have hx : (((Rect.unit (s := S640) (k0_off2 j) S16.size (k0_off2_inb j)).emb x) 0).val = k0_off2 j 0 + 1 * (x 0).val := rfl
      omega
  · have hx : (y 0).val - 16 * j.val < 16 := by omega
    have he : (Rect.unit (s := S640) (k0_off2 j) S16.size (k0_off2_inb j)).emb (Shape.Idx.ofFin (n := 16) ⟨_, hx⟩) = y :=
      Rect.emb_eq_of_coords _ _ _ fun a => by
        match a with
        | 0 => show (y 0).val = k0_off2 j 0 + 1 * ((y 0).val - 16 * j.val); omega
    rw [← he, View.read_slice_write_emb _ _ _ (Finset.mem_univ _), hw, he]
    congr 1
    show 16 * j.val + ((y 0).val - 16 * j.val) = _
    omega

/-- Where outer trip `j` stores its sixteen results. -/
abbrev slot (j : Fin k0_t1_loop.trips) : Rect S640 := Rect.unit (s := S640) (k0_off2 j) S16.size (k0_off2_inb j)

/-- What the outer loop keeps: the subcore's boxes and tables as they were fetched, and the first `16 j` results of each kind right. -/
def kept (fp : Vec F S2560 .f32) (fg : Vec F S512 .f32) (ft : Vec F S128 .i32) (j : ℕ) (_ : BitVec 32) : sProp 𝕄 :=
  iprop(scr d L cc0_scratch0 fp ∗ scr d L cc0_scratch1 fg ∗ scr d L cc0_scratch2 ft
    ∗ (∃ f, scr d L cc0_scratch3 f ∗ ⌜Upto (F := F) (e := .i32) f (fun q => label ft (score fp fg q)) (16 * j)⌝)
    ∗ (∃ f, scr d L cc0_scratch4 f ∗ ⌜Upto (F := F) (e := .f32) f (fun q => best (score fp fg q)) (16 * j)⌝)
    ∗ (∃ f, scr d L cc0_scratch5 f ∗ ⌜Upto (F := F) (e := .i32) f (fun q => pick (score fp fg q)) (16 * j)⌝))

/-- One trip of the outer loop: the boxes of sixteen proposals read, their sweep, and their three results stored. -/
theorem t1_trip (fp : Vec F S2560 .f32) (fg : Vec F S512 .f32) (ft : Vec F S128 .i32) (j : Fin k0_t1_loop.trips) (acc : BitVec 32) :
    kept d L fp fg ft j.val acc
      ⊢ wp frame (wpE (defs₀ (F := F)) 𝒱₀ (thr d L) none) Set.univ
          (k0_t1_body L pV (Memref.isWhole_whole _) gV (Memref.isWhole_whole _) tV (Memref.isWhole_whole _) lV (Memref.isWhole_whole _)
            bV (Memref.isWhole_whole _) iV (Memref.isWhole_whole _) sP (Memref.isWhole_whole _) sG (Memref.isWhole_whole _) sT (Memref.isWhole_whole _)
            sL (Memref.isWhole_whole _) sB (Memref.isWhole_whole _) sI (Memref.isWhole_whole _) cc0_scoped0 cc0_scoped1 cc0_scoped2 cc0_scoped3 cc0_scoped4 cc0_scoped5
            j acc)
          (kept d L fp fg ft (j.val + 1)) := by
  have hj : j.val < 40 := trips1 ▸ j.isLt
  have hx (x : S16.Idx) : (x 0).val < 16 := (x 0).isLt
  have e1 (x : S16.Idx) : (k0_pay1 0#32 1#32 j x).toNat = (16 * j.val + (x 0).val) * 4 := pay1_toNat j x
  have e2 (x : S16.Idx) : (k0_pay2 (k0_pay1 0#32 1#32 j) x).toNat = (16 * j.val + (x 0).val) * 4 + 1 :=
    add_toNat (e1 x) 1 (by omega) (by have := hx x; omega)
  have e3 (x : S16.Idx) : (k0_pay3 (k0_pay1 0#32 1#32 j) x).toNat = (16 * j.val + (x 0).val) * 4 + 2 :=
    add_toNat (e1 x) 2 (by omega) (by have := hx x; omega)
  have e4 (x : S16.Idx) : (k0_pay4 (k0_pay1 0#32 1#32 j) x).toNat = (16 * j.val + (x 0).val) * 4 + 3 :=
    add_toNat (e1 x) 3 (by omega) (by have := hx x; omega)
  have c1 : k0_chk1 (k0_pay1 0#32 1#32 j) := fun a x => by
    match a with
    | 0 => show (k0_pay1 0#32 1#32 j x).toNat < 2560; rw [e1]; have := hx x; omega
  have c2 : k0_chk2 (k0_pay2 (k0_pay1 0#32 1#32 j)) := fun a x => by
    match a with
    | 0 => show (k0_pay2 (k0_pay1 0#32 1#32 j) x).toNat < 2560; rw [e2]; have := hx x; omega
  have c3 : k0_chk3 (k0_pay3 (k0_pay1 0#32 1#32 j)) := fun a x => by
    match a with
    | 0 => show (k0_pay3 (k0_pay1 0#32 1#32 j) x).toNat < 2560; rw [e3]; have := hx x; omega
  have c4 : k0_chk4 (k0_pay4 (k0_pay1 0#32 1#32 j)) := fun a x => by
    match a with
    | 0 => show (k0_pay4 (k0_pay1 0#32 1#32 j) x).toNat < 2560; rw [e4]; have := hx x; omega
  unfold kept
  iintro ⟨HP, HG, HT, ⟨%fl, HL, %hl⟩, ⟨%fb, HB, %hb⟩, ⟨%fi, HI, %hi⟩⟩
  unfold k0_t1_body
  rw [k0_part1_eq_skeleton]
  unfold k0_part1_skel
  simp only [Prog.lift, Prog.bind_op, Prog.bind_ret, Prog.pure_eq_ret, bind_assoc]
  rw [wp_assume_of _ _ _ _ c1]
  iapply (SparseCore.wp_vectorLoadIdx 𝒱₀ (thr d L) none Set.univ (base := sP) (S := Finset.univ) (q := fullShare) (Finset.subset_univ _)) $$ HP; iintro HP
  rw [wp_assume_of _ _ _ _ c2]
  iapply (SparseCore.wp_vectorLoadIdx 𝒱₀ (thr d L) none Set.univ (base := sP) (S := Finset.univ) (q := fullShare) (Finset.subset_univ _)) $$ HP; iintro HP
  rw [wp_assume_of _ _ _ _ c3]
  iapply (SparseCore.wp_vectorLoadIdx 𝒱₀ (thr d L) none Set.univ (base := sP) (S := Finset.univ) (q := fullShare) (Finset.subset_univ _)) $$ HP; iintro HP
  rw [wp_assume_of _ _ _ _ c4]
  iapply (SparseCore.wp_vectorLoadIdx 𝒱₀ (thr d L) none Set.univ (base := sP) (S := Finset.univ) (q := fullShare) (Finset.subset_univ _)) $$ HP; iintro HP
  rw [Memref.read_access_whole]
  have l1 : ∀ h, loadIdx (F := F) (e := .f32) fp ![k0_pay1 0#32 1#32 j] h = lanes fp j.val 0 := fun h => funext fun x => by
    rw [loadIdx_word, e1]; rfl
  have l2 : ∀ h, loadIdx (F := F) (e := .f32) fp ![k0_pay2 (k0_pay1 0#32 1#32 j)] h = lanes fp j.val 1 := fun h => funext fun x => by
    rw [loadIdx_word, e2]; rfl
  have l3 : ∀ h, loadIdx (F := F) (e := .f32) fp ![k0_pay3 (k0_pay1 0#32 1#32 j)] h = lanes fp j.val 2 := fun h => funext fun x => by
    rw [loadIdx_word, e3]; rfl
  have l4 : ∀ h, loadIdx (F := F) (e := .f32) fp ![k0_pay4 (k0_pay1 0#32 1#32 j)] h = lanes fp j.val 3 := fun h => funext fun x => by
    rw [loadIdx_word, e4]; rfl
  rw [l1, l2, l3, l4]
  sl_for (fun n acc => iprop(scr d L cc0_scratch1 fg ∗ ⌜Swept fp fg j.val n acc⌝)) $$ [HG]
  case region => intro n acc; exact t2_trip d L fp fg j n acc
  · isplitl [HG]; · iexact HG
    ipureintro; exact swept_zero fp fg j.val
  iintro %acc2 ⟨HG, %hs⟩
  obtain ⟨ab, ai⟩ := acc2
  have hs' : ∀ x, ab x = best (score fp fg (16 * j.val + (x 0).val)) ∧ ai x = (sweep (score fp fg (16 * j.val + (x 0).val)) 128).2 := hs
  have hlow (x : S16.Idx) : k0_pay14 ab x = low (score fp fg (16 * j.val + (x 0).val)) := by
    show FloatOps.cmpf .olt (ab x) (FloatOps.ofBits .f32 0x3F000000#32) = _
    rw [(hs' x).1]; rfl
  have hpick (x : S16.Idx) : select (k0_pay14 ab) k0_pay15 ai x = pick (score fp fg (16 * j.val + (x 0).val)) := by
    show Scalar.select (k0_pay14 ab x) 0#32 (ai x) = _
    rw [hlow, (hs' x).2]; rfl
  have c9 : k0_chk9 (select (k0_pay14 ab) k0_pay15 ai) := fun a x => by
    match a with
    | 0 => show (select (k0_pay14 ab) k0_pay15 ai x).toNat < 128; rw [hpick]; exact pick_lt _
  unfold t1_trip.sl.prog.cont_1
  simp only [Prog.lift, Prog.bind_op, Prog.bind_ret, Prog.pure_eq_ret, bind_assoc]
  rw [wp_assume_of _ _ _ _ c9]
  iapply (SparseCore.wp_vectorLoadIdx 𝒱₀ (thr d L) none Set.univ (base := sT) (S := Finset.univ) (q := fullShare) (Finset.subset_univ _)) $$ HT; iintro HT
  rw [Memref.read_access_whole]
  have hlab (h) (x : S16.Idx) : k0_pay16 ab (loadIdx (F := F) (e := .i32) ft ![select (k0_pay14 ab) k0_pay15 ai] h) x
      = label ft (score fp fg (16 * j.val + (x 0).val)) := by
    show Scalar.select (k0_pay14 ab x) 0#32 (loadIdx (F := F) (e := .i32) ft ![select (k0_pay14 ab) k0_pay15 ai] h x) = _
    rw [hlow, loadIdx_word, hpick]; rfl
  iapply (wp_load 𝒱₀ (thr d L) none Set.univ (m := sB) (S := Finset.univ) (Finset.subset_univ _)) $$ HB; iintro HB
  iapply (wp_store 𝒱₀ (thr d L) none Set.univ (m := sB) (r := slot j) (Mk := Finset.univ) (f := fb) (S := Finset.univ) (Finset.subset_univ _)) $$ HB; iintro HB
  iapply (wp_load 𝒱₀ (thr d L) none Set.univ (m := sI) (S := Finset.univ) (Finset.subset_univ _)) $$ HI; iintro HI
  iapply (wp_store 𝒱₀ (thr d L) none Set.univ (m := sI) (r := slot j) (Mk := Finset.univ) (f := fi) (S := Finset.univ) (Finset.subset_univ _)) $$ HI; iintro HI
  simp only [Prog.bind_op, Prog.bind_ret, Prog.pure_eq_ret]
  iapply (wp_load 𝒱₀ (thr d L) none Set.univ (m := sL) (S := Finset.univ) (Finset.subset_univ _)) $$ HL; iintro HL
  iapply (wp_store 𝒱₀ (thr d L) none Set.univ (m := sL) (r := slot j) (Mk := Finset.univ) (f := fl) (S := Finset.univ) (Finset.subset_univ _)) $$ HL; iintro HL
  rw [wp_ret]; imodintro
  isplitl [HP]; · iexact HP
  isplitl [HG]; · iexact HG
  isplitl [HT]; · iexact HT
  isplitl [HL]
  · iexists _; isplitl [HL]; · iexact HL
    ipureintro; exact upto_store (sL).view j fl _ _ hl (hlab _)
  isplitl [HB]
  · iexists _; isplitl [HB]; · iexact HB
    ipureintro; exact upto_store (sB).view j fb _ _ hb fun x => (hs' x).1
  iexists _; isplitl [HI]; · iexact HI
  ipureintro; exact upto_store (sI).view j fi _ _ hi hpick

end Tile

end Cert.Proof.KernelIdeal

end
-- ==== Proof.IdealTask.lean ====
/-
  One vector subcore's task. The thirty-two subcores divide the proposals evenly, 640 each; a subcore fetches its own boxes, the ground-truth
  boxes and the labels, sweeps (IdealSweep.lean), and copies its three lists of results to its places in the three arrays. Handed its
  part of the arrays, it leaves in its places exactly the specification's results for them.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.IdealSweep

@[expose] public section

noncomputable section

namespace Cert.Proof.KernelIdeal

open Cert.KernelIdeal Cert.KernelIdeal.Gen Cert.Proof.Matcher

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs the kernel is called with: the two lists of boxes and the table of labels, the three results, the six scratches
local notation "pV" => (Memref.whole Cert.KernelIdeal.main_v2_scv : Memref Cert.KernelIdeal.sig Kind.scVector Space.hbm Cert.KernelIdeal.S81920 EltTy.f32)
local notation "gV" => (Memref.whole Cert.KernelIdeal.main_v3_scv : Memref Cert.KernelIdeal.sig Kind.scVector Space.hbm Cert.KernelIdeal.S512 EltTy.f32)
local notation "tV" => (Memref.whole Cert.KernelIdeal.main_arg2_scv : Memref Cert.KernelIdeal.sig Kind.scVector Space.hbm Cert.KernelIdeal.S128 EltTy.i32)
local notation "lV" => (Memref.whole Cert.KernelIdeal.main_v4_0_scv : Memref Cert.KernelIdeal.sig Kind.scVector Space.hbm Cert.KernelIdeal.S20480 EltTy.i32)
local notation "bV" => (Memref.whole Cert.KernelIdeal.main_v4_1_scv : Memref Cert.KernelIdeal.sig Kind.scVector Space.hbm Cert.KernelIdeal.S20480 EltTy.f32)
local notation "iV" => (Memref.whole Cert.KernelIdeal.main_v4_2_scv : Memref Cert.KernelIdeal.sig Kind.scVector Space.hbm Cert.KernelIdeal.S20480 EltTy.i32)
local notation "sP" => (Memref.whole Cert.KernelIdeal.cc0_scratch0 : Memref Cert.KernelIdeal.sig Kind.scVector Space.vmem Cert.KernelIdeal.S2560 EltTy.f32)
local notation "sG" => (Memref.whole Cert.KernelIdeal.cc0_scratch1 : Memref Cert.KernelIdeal.sig Kind.scVector Space.vmem Cert.KernelIdeal.S512 EltTy.f32)
local notation "sT" => (Memref.whole Cert.KernelIdeal.cc0_scratch2 : Memref Cert.KernelIdeal.sig Kind.scVector Space.vmem Cert.KernelIdeal.S128 EltTy.i32)
local notation "sL" => (Memref.whole Cert.KernelIdeal.cc0_scratch3 : Memref Cert.KernelIdeal.sig Kind.scVector Space.vmem Cert.KernelIdeal.S640 EltTy.i32)
local notation "sB" => (Memref.whole Cert.KernelIdeal.cc0_scratch4 : Memref Cert.KernelIdeal.sig Kind.scVector Space.vmem Cert.KernelIdeal.S640 EltTy.f32)
local notation "sI" => (Memref.whole Cert.KernelIdeal.cc0_scratch5 : Memref Cert.KernelIdeal.sig Kind.scVector Space.vmem Cert.KernelIdeal.S640 EltTy.i32)

/-! ## The arrays, and the part of each that is one subcore's -/

abbrev pLoc (d : Dev nD) : Loc nD τ sig := (SparseCore.T d).loc main_v2
abbrev gLoc (d : Dev nD) : Loc nD τ sig := (SparseCore.T d).loc main_v3
abbrev tLoc (d : Dev nD) : Loc nD τ sig := (SparseCore.T d).loc main_arg2
abbrev lLoc (d : Dev nD) : Loc nD τ sig := (SparseCore.T d).loc main_v4_0
abbrev bLoc (d : Dev nD) : Loc nD τ sig := (SparseCore.T d).loc main_v4_1
abbrev iLoc (d : Dev nD) : Loc nD τ sig := (SparseCore.T d).loc main_v4_2

theorem hdivP : 32 ∣ S81920.size 0 := ⟨2560, rfl⟩
theorem hdivO : 32 ∣ S20480.size 0 := ⟨640, rfl⟩
/-- Subcore `w`'s boxes, 640 of four words each, and its 640 places in each result. -/
abbrev partP (w : Fin 32) : Rect S81920 := Rect.part (s := S81920) (a₀ := 0) hdivP w
abbrev partO (w : Fin 32) : Rect S20480 := Rect.part (s := S20480) (a₀ := 0) hdivO w

/-- The number of the vector subcore at `L`, among the thirty-two. -/
def num (c : Fin 2) (i : Fin 16) : Fin 32 := ⟨2 * i.val + c.val, by omega⟩

variable [FloatOps F]

/-- The three results, as the lists of boxes `P`, `G` and the table of labels `A` give them. -/
def labels (P : Vec F S81920 .f32) (G : Vec F S512 .f32) (A : Vec F S128 .i32) : Vec F S20480 .i32 := fun y => label A (score P G (y 0).val)
def bests (P : Vec F S81920 .f32) (G : Vec F S512 .f32) : Vec F S20480 .f32 := fun y => best (score P G (y 0).val)
def picks (P : Vec F S81920 .f32) (G : Vec F S512 .f32) : Vec F S20480 .i32 := fun y => pick (score P G (y 0).val)

/-- What subcore `w` is handed: its boxes, a share of the ground-truth boxes and of the labels, and its places in the three results, which hold
    `l`, `b` and `i`. -/
def part (d : Dev nD) (w : Fin 32) (P : Vec F S81920 .f32) (G : Vec F S512 .f32) (A : Vec F S128 .i32) (l : Vec F S20480 .i32)
    (b : Vec F S20480 .f32) (i : Vec F S20480 .i32) : sProp 𝕄 :=
  iprop((pLoc d ↦[(partP w).set]{fullShare} P) ∗ (gLoc d ↦{Transfers.dealOf fullShare Finset.univ w} G) ∗ (tLoc d ↦{Transfers.dealOf fullShare Finset.univ w} A)
    ∗ (lLoc d ↦[(partO w).set]{fullShare} l) ∗ (bLoc d ↦[(partO w).set]{fullShare} b) ∗ (iLoc d ↦[(partO w).set]{fullShare} i))

instance (d : Dev nD) (w : Fin 32) (P : Vec F S81920 .f32) (G : Vec F S512 .f32) (A : Vec F S128 .i32) (l : Vec F S20480 .i32)
    (b : Vec F S20480 .f32) (i : Vec F S20480 .i32) : BI.Storable (upEmb : UEmb _ 𝕄) (part d w P G A l b i) := by
  unfold part; infer_instance

/-! ## The task -/

section Task

variable (d : Dev nD) (L : grid0.Coords)

/-- The number of the subcore at `L`. -/
abbrev numL (L : grid0.Coords) : Fin 32 := num (Fin.cast rfl (L 0)) (Fin.cast rfl (L 1))

/-- The slices the task copies from and to, as it spells them. -/
abbrev boxesK (L : grid0.Coords) : Memref sig .scVector .hbm S2560 .f32 :=
  (pV).slice (Rect.unit (s := S81920) (k0_off1 L) S2560.size (k0_off1_inb L)) (fun _ => rfl)
abbrev rectK (L : grid0.Coords) : Rect S20480 := Rect.unit (s := S20480) (k0_off3 L) S640.size (k0_off3_inb L)
abbrev labK (L : grid0.Coords) : Memref sig .scVector .hbm S640 .i32 := (lV).slice (rectK L) (fun _ => rfl)
abbrev bestK (L : grid0.Coords) : Memref sig .scVector .hbm S640 .f32 := (bV).slice (rectK L) (fun _ => rfl)
abbrev pickK (L : grid0.Coords) : Memref sig .scVector .hbm S640 .i32 := (iV).slice (rectK L) (fun _ => rfl)

omit [FloatOps F] in
theorem off1_eq : k0_off1 L 0 = 2560 * (numL L).val := by
  rw [k0_off1_eq]
  show 5120 * (L 1).val + 2560 * (L 0).val = 2560 * (2 * (L 1).val + (L 0).val)
  omega
omit [FloatOps F] in
theorem off3_eq : k0_off3 L 0 = 640 * (numL L).val := by
  rw [k0_off3_eq]
  show 1280 * (L 1).val + 640 * (L 0).val = 640 * (2 * (L 1).val + (L 0).val)
  omega

omit [FloatOps F] in
theorem rect1_eq : Rect.unit (s := S81920) (k0_off1 L) S2560.size (k0_off1_inb L) = partP (numL L) := by
  unfold partP Rect.part Rect.block
  congr 1 <;> funext a
  · match a with
    | 0 => rw [off1_eq]; simp [Shape.partIx, Shape.partSize]; omega
  · match a with
    | 0 => simp [Shape.partSize]
omit [FloatOps F] in
theorem rect3_eq : rectK L = partO (numL L) := by
  unfold rectK partO Rect.part Rect.block
  congr 1 <;> funext a
  · match a with
    | 0 => rw [off3_eq]; simp [Shape.partIx, Shape.partSize]; omega
  · match a with
    | 0 => simp [Shape.partSize]

omit [FloatOps F] in
theorem set_boxesK : (boxesK L).view.set = (partP (numL L)).set := by
  show ((View.whole main_v2_scv).slice _).set = _
  rw [View.set_slice_whole, rect1_eq]
omit [FloatOps F] in
theorem set_labK : (labK L).view.set = (partO (numL L)).set := by
  show ((View.whole main_v4_0_scv).slice _).set = _
  rw [View.set_slice_whole, rect3_eq]
omit [FloatOps F] in
theorem set_bestK : (bestK L).view.set = (partO (numL L)).set := by
  show ((View.whole main_v4_1_scv).slice _).set = _
  rw [View.set_slice_whole, rect3_eq]
omit [FloatOps F] in
theorem set_pickK : (pickK L).view.set = (partO (numL L)).set := by
  show ((View.whole main_v4_2_scv).slice _).set = _
  rw [View.set_slice_whole, rect3_eq]

/-- Six different members of a product of assertions, taken out of it. -/
theorem take_six {I J : Type} [DecidableEq I] [DecidableEq J] {s : Finset I} (Φ : I → sProp 𝕄) (n : J → I) (hn : Function.Injective n) (a b c e f g : J)
    (hs : n a ∈ s ∧ n b ∈ s ∧ n c ∈ s ∧ n e ∈ s ∧ n f ∈ s ∧ n g ∈ s) (h : [a, b, c, e, f, g].Nodup) :
    bigSep s Φ = iprop((Φ (n a) ∗ Φ (n b) ∗ Φ (n c) ∗ Φ (n e) ∗ Φ (n f) ∗ Φ (n g)) ∗ bigSep (s \ {n a, n b, n c, n e, n f, n g}) Φ) := by
  simp only [List.nodup_cons, List.mem_cons, List.not_mem_nil, or_false, not_or, not_false_eq_true, List.nodup_nil, and_true] at h
  have hsub : ({n a, n b, n c, n e, n f, n g} : Finset I) ⊆ s := by
    intro x hx
    simp only [Finset.mem_insert, Finset.mem_singleton] at hx
    rcases hx with rfl | rfl | rfl | rfl | rfl | rfl
    exacts [hs.1, hs.2.1, hs.2.2.1, hs.2.2.2.1, hs.2.2.2.2.1, hs.2.2.2.2.2]
  rw [SparseCore.bigSep_sdiff_split' hsub, SparseCore.bigSep_insert' (by simp [hn.eq_iff, h]), SparseCore.bigSep_insert' (by simp [hn.eq_iff, h]),
    SparseCore.bigSep_insert' (by simp [hn.eq_iff, h]), SparseCore.bigSep_insert' (by simp [hn.eq_iff, h]), SparseCore.bigSep_insert' (by simp [hn.eq_iff, h]),
    BI.bigSep_singleton]

/-- The six cells the task's copies are waited for on, as the executor spells them, at zero. -/
abbrev cell0 (s : DmaSems sig S_) (d : Dev nD) (L : grid0.Coords) : sProp 𝕄 := semVal ((thr d L, .dma s.sem) : GSem nD τ sig) 0

theorem ownSems0_tile : ∃ R : sProp 𝕄, (ownSems0 (thr d L) : sProp 𝕄)
    = iprop((cell0 cc0_scoped0 d L ∗ cell0 cc0_scoped1 d L ∗ cell0 cc0_scoped2 d L ∗ cell0 cc0_scoped3 d L ∗ cell0 cc0_scoped4 d L ∗ cell0 cc0_scoped5 d L) ∗ R) :=
  ⟨_, by
    rw [SparseCore.Cfg.ownSems0_eq]
    exact take_six _ (fun sm : SemLoc sig => sm) (fun _ _ e => e) (.dma cc0_scoped0.sem) (.dma cc0_scoped1.sem) (.dma cc0_scoped2.sem)
      (.dma cc0_scoped3.sem) (.dma cc0_scoped4.sem) (.dma cc0_scoped5.sem)
      (by
        have hm : ∀ sm : SemLoc sig, sm.isScoped .scVector = true → sm ∈ Finset.univ.filter fun sm : SemLoc sig => sm.isScoped (thr d L).2.kind :=
          fun sm h => Finset.mem_filter.mpr ⟨Finset.mem_univ _, h⟩
        refine ⟨hm _ ?_, hm _ ?_, hm _ ?_, hm _ ?_, hm _ ?_, hm _ ?_⟩ <;> decide)
      (by decide)⟩

theorem ownBufs_tile : ∃ R : sProp 𝕄, (ownBufs (thr d L) : sProp 𝕄)
    = iprop(((∃ f, scr d L cc0_scratch0 f) ∗ (∃ f, scr d L cc0_scratch1 f) ∗ (∃ f, scr d L cc0_scratch2 f) ∗ (∃ f, scr d L cc0_scratch3 f)
      ∗ (∃ f, scr d L cc0_scratch4 f) ∗ (∃ f, scr d L cc0_scratch5 f)) ∗ R) :=
  ⟨_, by
    unfold ownBufs
    exact take_six _ (fun b : Ref sig .scVector => (Proc.scVector (cV L) (jV L)).devRef b) (Proc.devRef_injective (Proc.scVector (cV L) (jV L))) cc0_scratch0 cc0_scratch1 cc0_scratch2
      cc0_scratch3 cc0_scratch4 cc0_scratch5
      (by refine ⟨?_, ?_, ?_, ?_, ?_, ?_⟩ <;> exact SparseCore.Cfg.mem_ownRefs_of_owner rfl)
      (by decide)⟩

/-- Subcore `w`'s own boxes, out of the list of all of them. -/
def own (P : Vec F S81920 .f32) (w : Fin 32) : Vec F S2560 .f32 := fun y => word P (2560 * w.val + (y 0).val)

omit [FloatOps F] in
theorem own_word (P : Vec F S81920 .f32) (w : Fin 32) (k : ℕ) (hk : k < 2560) : word (own P w) k = word P (2560 * w.val + k) := by
  show word P (2560 * w.val + k % 2560) = _
  rw [Nat.mod_eq_of_lt hk]

/-- A subcore's proposal is the whole list's, 640 further for each subcore before it. -/
theorem score_own (P : Vec F S81920 .f32) (G : Vec F S512 .f32) (w : Fin 32) (q : ℕ) (hq : q < 640) :
    score (own P w) G q = score P G (640 * w.val + q) := by
  funext g
  unfold score
  rw [own_word _ _ _ (by omega), own_word _ _ _ (by omega), own_word _ _ _ (by omega), own_word _ _ _ (by omega),
    show 2560 * w.val + q * 4 = (640 * w.val + q) * 4 by omega, show 2560 * w.val + (q * 4 + 1) = (640 * w.val + q) * 4 + 1 by omega,
    show 2560 * w.val + (q * 4 + 2) = (640 * w.val + q) * 4 + 2 by omega, show 2560 * w.val + (q * 4 + 3) = (640 * w.val + q) * 4 + 3 by omega]

omit [FloatOps F] in
/-- What is read of the list of boxes through the task's slice: the subcore's own. -/
theorem read_boxes (P : Vec F S81920 .f32) : (boxesK L).view.read (Elt F) P = own P (numL L) := by
  funext y
  show P ((Rect.unit (s := S81920) (k0_off1 L) S2560.size (k0_off1_inb L)).emb y) = word P (2560 * (numL L).val + (y 0).val)
  refine (word_of_eq (n := 81920) P _ ?_).symm
  show k0_off1 L 0 + 1 * (y 0).val = _
  rw [off1_eq]; omega

-- a position of the subcore's part of a result, by its number there
omit [FloatOps F] in
theorem emb_out (y : S640.Idx) : ((rectK L).emb y 0).val = 640 * (numL L).val + (y 0).val := by
  show k0_off3 L 0 + 1 * (y 0).val = _
  rw [off3_eq]; omega

/-- What the task leaves in its part of each result, once it has copied there the scratch that holds its 640 proposals' results. -/
theorem write_lab (P : Vec F S81920 .f32) (G : Vec F S512 .f32) (A : Vec F S128 .i32) (l : Vec F S20480 .i32) (f w : Vec F S640 .i32) (hw : w = f)
    (hf : Upto (F := F) (e := .i32) f (fun q => label A (score (own P (numL L)) G q)) 640) :
    ∀ y ∈ (labK L).view.set, (labK L).view.writes (Elt F) l [⟨Rect.whole S640, w⟩] y = labels P G A y := by
  intro y hy
  obtain ⟨x, -, rfl⟩ := Finset.mem_map.mp hy
  refine (View.read_writes_cons_hit_of_coords (labK L).view l (Rect.whole S640) w [] x x fun a => by simp [Rect.whole]).trans ?_
  rw [hw]
  refine (hf x (x 0).isLt).trans ?_
  show label A (score (own P (numL L)) G (x 0).val) = label A (score P G ((rectK L).emb x 0).val)
  rw [emb_out, score_own _ _ _ _ (x 0).isLt]
theorem write_best (P : Vec F S81920 .f32) (G : Vec F S512 .f32) (l : Vec F S20480 .f32) (f w : Vec F S640 .f32) (hw : w = f)
    (hf : Upto (F := F) (e := .f32) f (fun q => best (score (own P (numL L)) G q)) 640) :
    ∀ y ∈ (bestK L).view.set, (bestK L).view.writes (Elt F) l [⟨Rect.whole S640, w⟩] y = bests P G y := by
  intro y hy
  obtain ⟨x, -, rfl⟩ := Finset.mem_map.mp hy
  refine (View.read_writes_cons_hit_of_coords (bestK L).view l (Rect.whole S640) w [] x x fun a => by simp [Rect.whole]).trans ?_
  rw [hw]
  refine (hf x (x 0).isLt).trans ?_
  show best (score (own P (numL L)) G (x 0).val) = best (score P G ((rectK L).emb x 0).val)
  rw [emb_out, score_own _ _ _ _ (x 0).isLt]
theorem write_pick (P : Vec F S81920 .f32) (G : Vec F S512 .f32) (l : Vec F S20480 .i32) (f w : Vec F S640 .i32) (hw : w = f)
    (hf : Upto (F := F) (e := .i32) f (fun q => pick (score (own P (numL L)) G q)) 640) :
    ∀ y ∈ (pickK L).view.set, (pickK L).view.writes (Elt F) l [⟨Rect.whole S640, w⟩] y = picks P G y := by
  intro y hy
  obtain ⟨x, -, rfl⟩ := Finset.mem_map.mp hy
  refine (View.read_writes_cons_hit_of_coords (pickK L).view l (Rect.whole S640) w [] x x fun a => by simp [Rect.whole]).trans ?_
  rw [hw]
  refine (hf x (x 0).isLt).trans ?_
  show pick (score (own P (numL L)) G (x 0).val) = pick (score P G ((rectK L).emb x 0).val)
  rw [emb_out, score_own _ _ _ _ (x 0).isLt]

-- the pieces, as the task spells them
theorem pts_boxesK (P : Vec F S81920 .f32) :
    ((boxesK L).view.loc (thr d L) ↦[(boxesK L).view.set]{fullShare} P : sProp 𝕄) = pLoc d ↦[(partP (numL L)).set]{fullShare} P := by
  rw [set_boxesK]
theorem pts_labK (l : Vec F S20480 .i32) :
    ((labK L).view.loc (thr d L) ↦[(labK L).view.set]{fullShare} l : sProp 𝕄) = lLoc d ↦[(partO (numL L)).set]{fullShare} l := by
  rw [set_labK]
theorem pts_bestK (b : Vec F S20480 .f32) :
    ((bestK L).view.loc (thr d L) ↦[(bestK L).view.set]{fullShare} b : sProp 𝕄) = bLoc d ↦[(partO (numL L)).set]{fullShare} b := by
  rw [set_bestK]
theorem pts_pickK (i : Vec F S20480 .i32) :
    ((pickK L).view.loc (thr d L) ↦[(pickK L).view.set]{fullShare} i : sProp 𝕄) = iLoc d ↦[(partO (numL L)).set]{fullShare} i := by
  rw [set_pickK]

/-- The task on the subcore at `L`: its boxes and the two tables fetched, the forty trips, and the three results written out. -/
theorem tile_body (hF : (K (F := F)).Facts) (P : Vec F S81920 .f32) (G : Vec F S512 .f32) (A : Vec F S128 .i32) (l : Vec F S20480 .i32)
    (b : Vec F S20480 .f32) (i : Vec F S20480 .i32) (O : CellTallies nD τ sig (HIx 1)) (W : Waits sig (HIx 1)) (hO : ∀ g, O g none = 0) :
    iprop(levAts (K (F := F)).L (K (F := F)).lev ∗ emp ∗ part d (numL L) P G A l b i
        ∗ scopedBufs (thr d L) ∗ scopedSems0 (thr d L) ∗ owes (thr d L) O W)
      ⊢ wp frame (wpE (defs₀ (F := F)) 𝒱₀ (thr d L) none) Set.univ
          (cc0_sc_call L pV (Memref.isWhole_whole _) gV (Memref.isWhole_whole _) tV (Memref.isWhole_whole _) lV (Memref.isWhole_whole _)
            bV (Memref.isWhole_whole _) iV (Memref.isWhole_whole _) sP (Memref.isWhole_whole _) sG (Memref.isWhole_whole _) sT (Memref.isWhole_whole _)
            sL (Memref.isWhole_whole _) sB (Memref.isWhole_whole _) sI (Memref.isWhole_whole _) cc0_scoped0 cc0_scoped1 cc0_scoped2 cc0_scoped3 cc0_scoped4 cc0_scoped5)
          fun _ => iprop(part d (numL L) P G A (labels P G A) (bests P G) (picks P G)
            ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨Rb, hRb⟩ := ownBufs_tile (F := F) d L
  obtain ⟨Rs, hRs⟩ := ownSems0_tile (F := F) d L
  rw [(K (F := F)).scopedBufs_V hF d (cV L) (jV L), SparseCore.Cfg.scopedSems0_V (Val := Elt F) d (cV L) (jV L), hRb, hRs]
  unfold part
  iintro ⟨#Hlv, -, ⟨Hp, Hg, Ht, Hl, Hb, Hi⟩, ⟨⟨⟨%f0, H0⟩, ⟨%f1, H1⟩, ⟨%f2, H2⟩, ⟨%f3, H3⟩, ⟨%f4, H4⟩, ⟨%f5, H5⟩⟩, HRb⟩, ⟨⟨C0, C1, C2, C3, C4, C5⟩, HRs⟩, HO⟩
  ihave Hmw := (show levAts (K (F := F)).L (K (F := F)).lev ⊢ Transfers.MayWaits (thr d L) (default : HIx 1) O from
    (K (F := F)).mayWaits_none (thr := thr d L) hO) $$ Hlv
  -- the pieces in the body's spelling
  ihave Hp' := (Entails.of_eq (pts_boxesK (F := F) d L P).symm) $$ Hp
  ihave Hg' := (Entails.of_eq (show (gLoc d ↦{Transfers.dealOf fullShare Finset.univ (numL L)} G : sProp 𝕄)
    = ((gV).view.loc (thr d L) ↦{Transfers.dealOf fullShare Finset.univ (numL L)} G) from rfl)) $$ Hg
  ihave Ht' := (Entails.of_eq (show (tLoc d ↦{Transfers.dealOf fullShare Finset.univ (numL L)} A : sProp 𝕄)
    = ((tV).view.loc (thr d L) ↦{Transfers.dealOf fullShare Finset.univ (numL L)} A) from rfl)) $$ Ht
  ihave Hl' := (Entails.of_eq (pts_labK (F := F) d L l).symm) $$ Hl
  ihave Hb' := (Entails.of_eq (pts_bestK (F := F) d L b).symm) $$ Hb
  ihave Hi' := (Entails.of_eq (pts_pickK (F := F) d L i).symm) $$ Hi
  ihave H0' := (Entails.of_eq (show (scr d L cc0_scratch0 f0 : sProp 𝕄) = ((sP).view.loc (thr d L) ↦{fullShare} f0) from rfl)) $$ H0
  ihave H1' := (Entails.of_eq (show (scr d L cc0_scratch1 f1 : sProp 𝕄) = ((sG).view.loc (thr d L) ↦{fullShare} f1) from rfl)) $$ H1
  ihave H2' := (Entails.of_eq (show (scr d L cc0_scratch2 f2 : sProp 𝕄) = ((sT).view.loc (thr d L) ↦{fullShare} f2) from rfl)) $$ H2
  rw [cc0_sc_call_eq_skeleton]
  sl_unfold [cc0_sc_call_skel]
  sl_exec (disch := exact View.amount_pos _ _ (show 0 < S2560.numel by decide))
  -- the three fetched scratches: the subcore's own boxes, the ground truth's, the labels
  have e0 : View.write (Elt F) (sP).view f0 (tile_body.sl.dma0_2 L P) Finset.univ = own P (numL L) := by
    rw [← read_boxes]; exact View.read_write_univ (v := (sP).view) f0 _
  have e1 : View.write (Elt F) (sG).view f1 (tile_body.sl.dma0 G) Finset.univ = G := View.read_write_univ (v := (sG).view) f1 _
  have e2 : View.write (Elt F) (sT).view f2 (tile_body.sl.dma0_1 A) Finset.univ = A := View.read_write_univ (v := (sT).view) f2 _
  rw [e0, e1, e2]
  sl_for (kept d L (own P (numL L)) G A) $$ [H0' H1' H2' H3 H4 H5]
  case region =>
    intro j acc
    exact t1_trip d L (own P (numL L)) G A j acc
  · unfold kept
    isplitl [H0']; · iexact H0'
    isplitl [H1']; · iexact H1'
    isplitl [H2']; · iexact H2'
    isplitl [H3]
    · iexists f3; isplitl [H3]; · iexact H3
      ipureintro; intro y hy; exact absurd hy (Nat.not_lt_zero _)
    isplitl [H4]
    · iexists f4; isplitl [H4]; · iexact H4
      ipureintro; intro y hy; exact absurd hy (Nat.not_lt_zero _)
    · iexists f5; isplitl [H5]; · iexact H5
      ipureintro; intro y hy; exact absurd hy (Nat.not_lt_zero _)
  iintro %acc HK
  unfold kept
  rw [show Scf.trips k0_t1_loop.lb k0_t1_loop.ub k0_t1_loop.st = 40 from trips1]
  icases HK with ⟨H0, H1, H2, ⟨%fl, H3, %hl⟩, ⟨%fb, H4, %hb⟩, ⟨%fi, H5, %hi⟩⟩
  ihave H3' := (Entails.of_eq (show (scr d L cc0_scratch3 fl : sProp 𝕄) = ((sL).view.loc (thr d L) ↦{fullShare} fl) from rfl)) $$ H3
  ihave H4' := (Entails.of_eq (show (scr d L cc0_scratch4 fb : sProp 𝕄) = ((sB).view.loc (thr d L) ↦{fullShare} fb) from rfl)) $$ H4
  ihave H5' := (Entails.of_eq (show (scr d L cc0_scratch5 fi : sProp 𝕄) = ((sI).view.loc (thr d L) ↦{fullShare} fi) from rfl)) $$ H5
  unfold tile_body.sl.prog.cont_1
  sl_exec (disch := exact View.amount_pos _ _ (show 0 < S640.numel by decide))
  sl_step
  isplitl [Hp' Hg' Ht' Hl' Hb' Hi']
  · isplitl [Hp']; · iapply (Entails.of_eq (pts_boxesK (F := F) d L P)); iexact Hp'
    isplitl [Hg']; · iexact Hg'
    isplitl [Ht']; · iexact Ht'
    isplitl [Hl']
    · iapply (Entails.of_eq ((pointsTo_congr (write_lab (F := F) L P G A l fl _ rfl hl)).trans (pts_labK (F := F) d L _))); iexact Hl'
    isplitl [Hb']
    · iapply (Entails.of_eq ((pointsTo_congr (write_best (F := F) L P G b fb _ rfl hb)).trans (pts_bestK (F := F) d L _))); iexact Hb'
    · iapply (Entails.of_eq ((pointsTo_congr (write_pick (F := F) L P G i fi _ rfl hi)).trans (pts_pickK (F := F) d L _))); iexact Hi'
  isplitl [H0 H1 H2 H3' H4' H5' HRb]
  · isplitr [HRb]
    · isplitl [H0]; · iexists _; iexact H0
      isplitl [H1]; · iexists _; iexact H1
      isplitl [H2]; · iexists _; iexact H2
      isplitl [H3']; · iexists _; iexact H3'
      isplitl [H4']; · iexists _; iexact H4'
      iexists _; iexact H5'
    · iexact HRb
  isplitl [C0 C1 C2 C3 C4 C5 HRs]
  · isplitr [HRs]
    · isplitl [C0]; · iexact C0
      isplitl [C1]; · iexact C1
      isplitl [C2]; · iexact C2
      isplitl [C3]; · iexact C3
      isplitl [C4]; · iexact C4
      iexact C5
    · iexact HRs
  iexists _; isplitr
  swap; · iexact HO
  -- the one call's waits are all at index `none` or at the call's own
  ipureintro; intro p _
  rcases p.2 with _ | q
  · exact .inr (.inl rfl)
  · exact .inr (.inr (congrArg some (Subsingleton.elim q 0)))

end Task

end Cert.Proof.KernelIdeal

end
-- ==== Proof.IdealRun.lean ====
/-
  The launch and the main program's run: the host operations before the call (padding, flattening), the call on thirty-two vector subcores, and
  the three slices after it. The run is stated with every buffer's last contents, so that both the frame and the value are read off it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.IdealTask

@[expose] public section

noncomputable section

namespace Cert.Proof.KernelIdeal

open Cert.KernelIdeal Cert.KernelIdeal.Gen Cert.Proof.Matcher

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs the kernel is called with: the two lists of boxes and the table of labels, the three results, the six scratches
local notation "pV" => (Memref.whole Cert.KernelIdeal.main_v2_scv : Memref Cert.KernelIdeal.sig Kind.scVector Space.hbm Cert.KernelIdeal.S81920 EltTy.f32)
local notation "gV" => (Memref.whole Cert.KernelIdeal.main_v3_scv : Memref Cert.KernelIdeal.sig Kind.scVector Space.hbm Cert.KernelIdeal.S512 EltTy.f32)
local notation "tV" => (Memref.whole Cert.KernelIdeal.main_arg2_scv : Memref Cert.KernelIdeal.sig Kind.scVector Space.hbm Cert.KernelIdeal.S128 EltTy.i32)
local notation "lV" => (Memref.whole Cert.KernelIdeal.main_v4_0_scv : Memref Cert.KernelIdeal.sig Kind.scVector Space.hbm Cert.KernelIdeal.S20480 EltTy.i32)
local notation "bV" => (Memref.whole Cert.KernelIdeal.main_v4_1_scv : Memref Cert.KernelIdeal.sig Kind.scVector Space.hbm Cert.KernelIdeal.S20480 EltTy.f32)
local notation "iV" => (Memref.whole Cert.KernelIdeal.main_v4_2_scv : Memref Cert.KernelIdeal.sig Kind.scVector Space.hbm Cert.KernelIdeal.S20480 EltTy.i32)
local notation "sP" => (Memref.whole Cert.KernelIdeal.cc0_scratch0 : Memref Cert.KernelIdeal.sig Kind.scVector Space.vmem Cert.KernelIdeal.S2560 EltTy.f32)
local notation "sG" => (Memref.whole Cert.KernelIdeal.cc0_scratch1 : Memref Cert.KernelIdeal.sig Kind.scVector Space.vmem Cert.KernelIdeal.S512 EltTy.f32)
local notation "sT" => (Memref.whole Cert.KernelIdeal.cc0_scratch2 : Memref Cert.KernelIdeal.sig Kind.scVector Space.vmem Cert.KernelIdeal.S128 EltTy.i32)
local notation "sL" => (Memref.whole Cert.KernelIdeal.cc0_scratch3 : Memref Cert.KernelIdeal.sig Kind.scVector Space.vmem Cert.KernelIdeal.S640 EltTy.i32)
local notation "sB" => (Memref.whole Cert.KernelIdeal.cc0_scratch4 : Memref Cert.KernelIdeal.sig Kind.scVector Space.vmem Cert.KernelIdeal.S640 EltTy.f32)
local notation "sI" => (Memref.whole Cert.KernelIdeal.cc0_scratch5 : Memref Cert.KernelIdeal.sig Kind.scVector Space.vmem Cert.KernelIdeal.S640 EltTy.i32)

variable [FloatOps F] (m : (ℓ : Loc nD τ sig) → Buf (Elt F) ℓ) (ρ : Dev nD → PrngReg)

/-! ## The host operations around the call, and the valuations they leave -/

/-- The proposals with 480 boxes more after them. -/
def pad (a : Vec F S20000x4 .f32) (b : Vec F S480x4 .f32) : Vec F S20480x4 .f32 :=
  concatenate S20480x4 0 [⟨S20000x4, a⟩, ⟨S480x4, b⟩] concatenates_S20000x4_S480x4_S20480x4_d0

/-- The operations before the call: the proposals padded to 20480 boxes, both lists of boxes flattened. -/
def pre : List (HloOp τ sig (Elt F)) :=
  [StableHlo.nullary main_cst (constant S_ .f32 0x00000000#32),
    StableHlo.unary main_cst main_v0 (broadcastInDim S480x4 ![] bcast_S_S480x4 : (⟨S_, .f32⟩ : BufTy).Contents (Elt F) → (⟨S480x4, .f32⟩ : BufTy).Contents (Elt F)),
    StableHlo.binary main_arg0 main_v0 main_v1 pad,
    StableHlo.reshape main_v1 main_v2 (rfl : (.f32 : EltTy) = .f32) shapeCasts_S20480x4_S81920,
    StableHlo.reshape main_arg1 main_v3 (rfl : (.f32 : EltTy) = .f32) shapeCasts_S128x4_S512]

/-- The operations after it: each list of 20480 results cut to the 20000 of the proposals. -/
def post : List (HloOp τ sig (Elt F)) :=
  [StableHlo.unary main_v4_0 main_v5 ((extractStridedSlice S20000 ![0] · slices_S20480_S20000_0) : (⟨S20480, .i32⟩ : BufTy).Contents (Elt F) → (⟨S20000, .i32⟩ : BufTy).Contents (Elt F)),
    StableHlo.unary main_v4_1 main_v6 ((extractStridedSlice S20000 ![0] · slices_S20480_S20000_0) : (⟨S20480, .f32⟩ : BufTy).Contents (Elt F) → (⟨S20000, .f32⟩ : BufTy).Contents (Elt F)),
    StableHlo.unary main_v4_2 main_v7 ((extractStridedSlice S20000 ![0] · slices_S20480_S20000_0) : (⟨S20480, .i32⟩ : BufTy).Contents (Elt F) → (⟨S20000, .i32⟩ : BufTy).Contents (Elt F))]

theorem main_eq (d : Dev nD) :
    main (F := F) d = StableHlo.seq pre >>= fun _ => sc.run d 0 >>= fun _ => StableHlo.seq post >>= fun _ => pure ⟨⟩ := by
  simp only [main, pre, post, StableHlo.seq, bind_assoc, pure_bind]; rfl

theorem pre_sub : ∀ op ∈ pre (F := F), op.bufs ⊆ Pipeline.ucRefs τ sig := by
  intro op h
  simp only [pre, List.mem_cons, List.not_mem_nil, or_false] at h
  rcases h with rfl | rfl | rfl | rfl | rfl <;> exact Pipeline.sub_ucRefs _ (by simp)
theorem post_sub : ∀ op ∈ post (F := F), op.bufs ⊆ Pipeline.ucRefs τ sig := by
  intro op h
  simp only [post, List.mem_cons, List.not_mem_nil, or_false] at h
  rcases h with rfl | rfl | rfl <;> exact Pipeline.sub_ucRefs _ (by simp)
theorem pre_fresh : ∀ op ∈ pre (F := F), op.fresh = ∅ := by
  intro op h
  simp only [pre, List.mem_cons, List.not_mem_nil, or_false] at h
  rcases h with rfl | rfl | rfl | rfl | rfl <;> rfl
theorem post_fresh : ∀ op ∈ post (F := F), op.fresh = ∅ := by
  intro op h
  simp only [post, List.mem_cons, List.not_mem_nil, or_false] at h
  rcases h with rfl | rfl | rfl <;> rfl

/-- A buffer of the TensorCore's, as the device's. -/
abbrev dr (b : Ref sig .tc) : DevRef τ sig := Proc.devRef .tc b

/-- What the device's buffers hold before the call, -/
def V1 (d : Dev nD) : Valuation τ sig (Elt F) := StableHlo.after pre (fun b => m (d, b))
/-- the two lists of boxes and the labels among them, -/
abbrev boxesP (d : Dev nD) : Vec F S81920 .f32 := V1 m d (dr main_v2)
abbrev boxesG (d : Dev nD) : Vec F S512 .f32 := V1 m d (dr main_v3)
abbrev table (d : Dev nD) : Vec F S128 .i32 := V1 m d (dr main_arg2)
/-- after the call, -/
def V2 (d : Dev nD) : Valuation τ sig (Elt F) :=
  Function.update (Function.update (Function.update (V1 m d) (dr main_v4_0) (labels (boxesP m d) (boxesG m d) (table m d)))
    (dr main_v4_1) (bests (boxesP m d) (boxesG m d))) (dr main_v4_2) (picks (boxesP m d) (boxesG m d))
/-- and at the end. -/
def V3 (d : Dev nD) : Valuation τ sig (Elt F) := StableHlo.after post (V2 m d)

/-! ## The arrays as the subcores' parts -/

omit [FloatOps F] in
/-- An array whole is the thirty-two subcores' parts of it, -/
theorem whole_parts (ℓ : Loc nD τ sig) (set : Fin 32 → Finset (Idx ℓ)) (hd : ∀ i ∈ (Finset.univ : Finset (Fin 32)), ∀ j ∈ (Finset.univ : Finset (Fin 32)), i ≠ j → Disjoint (set i) (set j))
    (hc : (Finset.univ : Finset (Fin 32)).biUnion set = Finset.univ) (f : Buf (Elt F) ℓ) :
    (ℓ ↦{fullShare} f : sProp 𝕄) = bigSep Finset.univ fun w : Fin 32 => ℓ ↦[set w]{fullShare} f := by
  rw [← pointsTo_biUnion Finset.univ (ℓ := ℓ) set hd, hc]

/-- and the six arrays are what the subcores are handed. -/
theorem all_parts (d : Dev nD) (P : Vec F S81920 .f32) (G : Vec F S512 .f32) (A : Vec F S128 .i32) (l : Vec F S20480 .i32)
    (b : Vec F S20480 .f32) (i : Vec F S20480 .i32) :
    (iprop((pLoc d ↦{fullShare} P) ∗ (gLoc d ↦{fullShare} G) ∗ (tLoc d ↦{fullShare} A) ∗ (lLoc d ↦{fullShare} l) ∗ (bLoc d ↦{fullShare} b) ∗ (iLoc d ↦{fullShare} i)) : sProp 𝕄)
      = bigSep Finset.univ fun w : Fin 32 => part d w P G A l b i := by
  unfold part
  rw [bigSep_sep', bigSep_sep', bigSep_sep', bigSep_sep', bigSep_sep',
    ← Transfers.pointsTo_deal (Finset.univ : Finset (Fin 32)) ⟨0, Finset.mem_univ _⟩ fullShare,
    ← Transfers.pointsTo_deal (Finset.univ : Finset (Fin 32)) ⟨0, Finset.mem_univ _⟩ fullShare,
    whole_parts (pLoc d) (fun w => (partP w).set) (fun i _ j _ h => Rect.part_disjoint hdivP h) (Rect.biUnion_part hdivP),
    whole_parts (lLoc d) (fun w => (partO w).set) (fun i _ j _ h => Rect.part_disjoint hdivO h) (Rect.biUnion_part hdivO),
    whole_parts (bLoc d) (fun w => (partO w).set) (fun i _ j _ h => Rect.part_disjoint hdivO h) (Rect.biUnion_part hdivO),
    whole_parts (iLoc d) (fun w => (partO w).set) (fun i _ j _ h => Rect.part_disjoint hdivO h) (Rect.biUnion_part hdivO)]

omit [FloatOps F] in
/-- A product over the thirty-two is one over the cores and their sixteen subcores. -/
theorem by_core (Φ : Fin 32 → sProp 𝕄) :
    bigSep Finset.univ Φ = bigSep Finset.univ fun c : Fin 2 => bigSep Finset.univ fun i : Fin 16 => Φ (num c i) := by
  have hb : Function.Bijective fun p : Fin 2 × Fin 16 => num p.1 p.2 := by
    rw [Fintype.bijective_iff_injective_and_card]
    refine ⟨fun p q h => ?_, rfl⟩
    have e : 2 * p.2.val + p.1.val = 2 * q.2.val + q.1.val := congrArg Fin.val h
    exact Prod.ext (Fin.ext (by omega)) (Fin.ext (by omega))
  rw [bigSep_univ_equiv (Equiv.ofBijective _ hb) Φ, bigSep_univ_prod]; rfl

/-! ## What the call hands over -/

/-- The subcore of the grid's core `c` and place `i`, among the thirty-two. -/
abbrev nth (c : Fin ((K (F := F)).nCore 0)) (i : Fin ((K (F := F)).nSub 0)) : Fin 32 := num (Fin.cast nCore_zero c) (Fin.cast nSub_zero i)

/-- What subcore `w` is handed, and what it gives back. -/
abbrev gave (d : Dev nD) (w : Fin 32) : sProp 𝕄 :=
  part d w (boxesP m d) (boxesG m d) (table m d) (V1 m d (dr main_v4_0)) (V1 m d (dr main_v4_1)) (V1 m d (dr main_v4_2))
abbrev took (d : Dev nD) (w : Fin 32) : sProp 𝕄 :=
  part d w (boxesP m d) (boxesG m d) (table m d) (labels (boxesP m d) (boxesG m d) (table m d)) (bests (boxesP m d) (boxesG m d)) (picks (boxesP m d) (boxesG m d))

/-- A core is handed its subcores' parts. -/
def P : (K (F := F)).Pay (nD := nD) (Val := Elt F) (Name := ℕ) (U := UU) where
  st := fun q d => match q with | 0 => fun c => bigSep Finset.univ fun i => gave m d (nth c i)
  dn := fun q d => match q with | 0 => fun c => bigSep Finset.univ fun i => took m d (nth c i)
  go := fun q d => match q with | 0 => fun c i => gave m d (nth c i)
  td := fun q d => match q with | 0 => fun c i => took m d (nth c i)
  x := fun _ _ => iprop(emp)

instance P_storable : (P (F := F) m).IsStorable where
  st q d c := match q with | 0 => (inferInstance : BI.Storable (upEmb : UEmb _ 𝕄) (bigSep Finset.univ fun i => gave m d (nth c i)))
  dn q d c := match q with | 0 => (inferInstance : BI.Storable (upEmb : UEmb _ 𝕄) (bigSep Finset.univ fun i => took m d (nth c i)))
  go q d c i := match q with | 0 => (inferInstance : BI.Storable (upEmb : UEmb _ 𝕄) (gave m d (nth c i)))
  td q d c i := match q with | 0 => (inferInstance : BI.Storable (upEmb : UEmb _ 𝕄) (took m d (nth c i)))

theorem vecSplit : (K (F := F)).VecSplit' (P m) 0 := by
  intro d c
  show (bigSep Finset.univ fun i => gave m d (nth c i)) ⊢ |={Set.univ}=> iprop((bigSep Finset.univ fun i => gave m d (nth c i))
    ∗ ((bigSep Finset.univ fun i => took m d (nth c i)) -∗ bigSep Finset.univ fun i => took m d (nth c i)))
  iintro H; imodintro
  isplitl [H]; · iexact H
  iintro H; iexact H

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_call (coordsV c s)
          pV (Memref.isWhole_whole _) gV (Memref.isWhole_whole _) tV (Memref.isWhole_whole _) lV (Memref.isWhole_whole _)
          bV (Memref.isWhole_whole _) iV (Memref.isWhole_whole _) sP (Memref.isWhole_whole _) sG (Memref.isWhole_whole _) sT (Memref.isWhole_whole _)
          sL (Memref.isWhole_whole _) sB (Memref.isWhole_whole _) sI (Memref.isWhole_whole _) cc0_scoped0 cc0_scoped1 cc0_scoped2 cc0_scoped3 cc0_scoped4 cc0_scoped5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF _ _ _ _ _ _ O W hO

/-! ## The launch element -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The main program -/

/-- The call's six arrays, out of the device's buffers at a valuation. -/
theorem held_six (d : Dev nD) : ∃ S : Finset (DevRef τ sig), (dr main_v4_0 ∉ S ∧ dr main_v4_1 ∉ S ∧ dr main_v4_2 ∉ S) ∧ ∀ V : Valuation τ sig (Elt F),
    (StableHlo.held (d.tc : Thread nD τ) (Pipeline.ucRefs τ sig) V : sProp 𝕄)
      = iprop(((pLoc d ↦{fullShare} V (dr main_v2)) ∗ (gLoc d ↦{fullShare} V (dr main_v3)) ∗ (tLoc d ↦{fullShare} V (dr main_arg2))
        ∗ (lLoc d ↦{fullShare} V (dr main_v4_0)) ∗ (bLoc d ↦{fullShare} V (dr main_v4_1)) ∗ (iLoc d ↦{fullShare} V (dr main_v4_2)))
        ∗ StableHlo.held (d.tc : Thread nD τ) S V) := by
  refine ⟨_, ?_, fun V => take_six (fun b => ((d, b) : Loc nD τ sig) ↦{fullShare} V b) (Proc.devRef (τ := τ) (sig := sig) .tc) (Proc.devRef_injective _)
    main_v2 main_v3 main_arg2 main_v4_0 main_v4_1 main_v4_2 ?_ (by decide)⟩
  · simp
  · refine ⟨?_, ?_, ?_, ?_, ?_, ?_⟩ <;> decide

theorem st0_eq (d : Dev nD) : (bigSep Finset.univ fun c : Fin ((K (F := F)).nCore 0) => (P m).st 0 d c) = bigSep Finset.univ fun w : Fin 32 => gave m d w :=
  (by_core (gave m d)).symm
theorem dn0_eq (d : Dev nD) : (bigSep Finset.univ fun c : Fin ((K (F := F)).nCore 0) => (P m).dn 0 d c) = bigSep Finset.univ fun w : Fin 32 => took m d w :=
  (by_core (took m d)).symm

theorem V2_of_ne (d : Dev nD) {b : DevRef τ sig} (h : b ≠ dr main_v4_0 ∧ b ≠ dr main_v4_1 ∧ b ≠ dr main_v4_2) : V2 m d b = V1 m d b := by
  unfold V2
  rw [Function.update_of_ne h.2.2, Function.update_of_ne h.2.1, Function.update_of_ne h.1]
theorem V2_l (d : Dev nD) : V2 m d (dr main_v4_0) = labels (boxesP m d) (boxesG m d) (table m d) := by
  unfold V2
  rw [Function.update_of_ne (by decide), Function.update_of_ne (by decide), Function.update_self]
theorem V2_b (d : Dev nD) : V2 m d (dr main_v4_1) = bests (boxesP m d) (boxesG m d) := by
  unfold V2
  rw [Function.update_of_ne (by decide), Function.update_self]
theorem V2_i (d : Dev nD) : V2 m d (dr main_v4_2) = picks (boxesP m d) (boxesG m d) := by
  unfold V2
  rw [Function.update_self]

/-- What the main program leaves: every buffer of the device's at its last valuation. -/
abbrev FIN (d : Dev nD) : sProp 𝕄 := StableHlo.held (d.tc : Thread nD τ) (Pipeline.ucRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨S, ⟨hl, hb, hi⟩, hS⟩ := held_six (F := F) d
  unfold SparseCore.Cfg.tcRes SparseCore.Cfg.tcEnd
  rw [show (unscopedBufs d (fun b => m ((SparseCore.T d).loc b)) : sProp 𝕄) = StableHlo.held (d.tc : Thread nD τ) (Pipeline.ucRefs τ sig) (fun b => m (d, b)) from
    Pipeline.unscopedBufs_held d (fun b => m (d, b)), main_eq]
  iintro ⟨#Hctx, Hst, ⟨Hb, Hbufs, Hts, -⟩, -⟩
  iapply (StableHlo.wp_seq 𝒱 none Set.univ d (Pipeline.ucRefs τ sig) _ pre pre_sub pre_fresh (fun b => m (d, b))) $$ [Hb Hbufs]
  · isplitl [Hb]; · iexact Hb
    iexact Hbufs
  iintro ⟨Hb, Hbufs⟩
  ihave Hsix := (Entails.of_eq (show (StableHlo.held (d.tc : Thread nD τ) (Pipeline.ucRefs τ sig) (StableHlo.after pre fun b => m (d, b)) : sProp 𝕄) = _ from hS (V1 m d))) $$ Hbufs
  icases Hsix with ⟨H6, Hrest⟩
  ihave Hparts := (Entails.of_eq (all_parts (F := F) d _ _ _ _ _ _)) $$ H6
  rw [wp_bind]
  iapply ((K (F := F)).wp_run (D (F := F)) 𝒱 (EH := EH) (P := P m) κ d 0) $$ [Hst Hparts Hb Hts Hrest]
  isplitr; · iexact Hctx
  isplitl [Hst]; · iexact Hst
  isplitl [Hparts]
  · rw [st0_eq]; iexact Hparts
  iintro ⟨Hst, Hdn⟩
  ihave Hdn' := (Entails.of_eq ((dn0_eq m d).trans (all_parts (F := F) d _ _ _ _ _ _).symm)) $$ Hdn
  ihave Hall := (Entails.of_eq (show (iprop(((pLoc d ↦{fullShare} boxesP m d) ∗ (gLoc d ↦{fullShare} boxesG m d) ∗ (tLoc d ↦{fullShare} table m d)
        ∗ (lLoc d ↦{fullShare} labels (boxesP m d) (boxesG m d) (table m d)) ∗ (bLoc d ↦{fullShare} bests (boxesP m d) (boxesG m d))
        ∗ (iLoc d ↦{fullShare} picks (boxesP m d) (boxesG m d))) ∗ StableHlo.held (d.tc : Thread nD τ) S (V1 m d)) : sProp 𝕄)
      = StableHlo.held (d.tc : Thread nD τ) (Pipeline.ucRefs τ sig) (V2 m d) from by
    rw [hS (V2 m d), V2_l, V2_b, V2_i, V2_of_ne m d (b := dr main_v2) (by decide), V2_of_ne m d (b := dr main_v3) (by decide), V2_of_ne m d (b := dr main_arg2) (by decide),
      StableHlo.held_congr (d.tc : Thread nD τ) (V := V2 m d) (V' := V1 m d) fun b hb' => V2_of_ne m d
        ⟨fun e => hl (e ▸ hb'), fun e => hb (e ▸ hb'), fun e => hi (e ▸ hb')⟩])) $$ [Hdn' Hrest]
  · isplitl [Hdn']; · iexact Hdn'
    iexact Hrest
  iapply (StableHlo.wp_seq 𝒱 none Set.univ d (Pipeline.ucRefs τ sig) _ post post_sub post_fresh (V2 m d)) $$ [Hb Hall]
  · isplitl [Hb]; · iexact Hb
    iexact Hall
  iintro ⟨Hb, Hend⟩
  rw [wp_pure]; imodintro
  isplitl [Hst]; · iexact Hst
  isplitl [Hend]; · iexact Hend
  isplitl [Hb] <;> iassumption

/-! ## The run -/

/-- What the last state holds of device `d`: every buffer of its, at the last valuation. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold FIN StableHlo.held
  iintro ⟨Hx, HSI⟩
  iapply (SI_pointsTo_bufs_agree (st := s') (c := d) (qs := fun _ => fullShare) (B := Pipeline.ucRefs τ sig) (F := V3 m d))
  isplitl [HSI]; · iexact HSI
  iexact Hx

/-- Every buffer of every device's at its last valuation, and every counter at zero. -/
def QC : PUnit × MemSt nD τ sig (Elt F) → Prop :=
  fun r => (∀ c : Dev nD, ∀ b ∈ Pipeline.ucRefs τ sig, r.2.mem (c, b) = V3 m c b) ∧ r.2.sem = fun _ => 0

/-- The whole program's run, from any memory with every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## What the last valuation holds -/

theorem V3_arg0 (d : Dev nD) : V3 m d (dr main_arg0) = m (d, dr main_arg0) := by
  unfold V3 post
  after_results_simp
  rw [V2_of_ne m d (by decide)]
  unfold V1 pre
  after_results_simp
theorem V3_arg1 (d : Dev nD) : V3 m d (dr main_arg1) = m (d, dr main_arg1) := by
  unfold V3 post
  after_results_simp
  rw [V2_of_ne m d (by decide)]
  unfold V1 pre
  after_results_simp
theorem V3_arg2 (d : Dev nD) : V3 m d (dr main_arg2) = m (d, dr main_arg2) := by
  unfold V3 post
  after_results_simp
  rw [V2_of_ne m d (by decide)]
  unfold V1 pre
  after_results_simp
theorem V3_v5 (d : Dev nD) : V3 m d (dr main_v5) = extractStridedSlice S20000 ![0] (labels (boxesP m d) (boxesG m d) (table m d)) slices_S20480_S20000_0 := by
  unfold V3 post
  after_results_simp
  rw [V2_l]
theorem V3_v6 (d : Dev nD) : V3 m d (dr main_v6) = extractStridedSlice S20000 ![0] (bests (boxesP m d) (boxesG m d)) slices_S20480_S20000_0 := by
  unfold V3 post
  after_results_simp
  rw [V2_b]
theorem V3_v7 (d : Dev nD) : V3 m d (dr main_v7) = extractStridedSlice S20000 ![0] (picks (boxesP m d) (boxesG m d)) slices_S20480_S20000_0 := by
  unfold V3 post
  after_results_simp
  rw [V2_i]

theorem table_eq (d : Dev nD) : table m d = m (d, dr main_arg2) := by
  unfold table V1 pre
  after_results_simp
theorem boxesG_eq (d : Dev nD) : boxesG m d = shapeCast S512 (m (d, dr main_arg1) : Vec F S128x4 .f32) shapeCasts_S128x4_S512 := by
  unfold boxesG V1 pre
  after_results_simp; rfl
theorem boxesP_eq (d : Dev nD) : boxesP m d = shapeCast S81920 (pad (m (d, dr main_arg0) : Vec F S20000x4 .f32)
    (broadcastInDim S480x4 ![] bcast_S_S480x4 (constant S_ .f32 0x00000000#32))) shapeCasts_S20480x4_S81920 := by
  unfold boxesP V1 pre
  after_results_simp; rfl

/-! ## The frame -/

/-- The program ends, its three arguments unchanged and every counter at zero. -/
theorem frame_run [∀ e, Nonempty (Elt F e)] :
    θ_run (Cert.KernelIdeal.defs (F := F)) (Cert.KernelIdeal.threads (F := F)) ⟨m, fun _ => 0, ρ⟩ fun r =>
      (∀ c : Dev nD, r.2.mem (c, dr main_arg0) = m (c, dr main_arg0) ∧ r.2.mem (c, dr main_arg1) = m (c, dr main_arg1) ∧ r.2.mem (c, dr main_arg2) = m (c, dr main_arg2))
        ∧ r.2.sem = fun _ => 0 :=
  (θ_run (Cert.KernelIdeal.defs (F := F)) _ _).mono (fun _ h => ⟨fun c => ⟨(h.1 c _ (by decide)).trans (V3_arg0 m c), (h.1 c _ (by decide)).trans (V3_arg1 m c),
    (h.1 c _ (by decide)).trans (V3_arg2 m c)⟩, h.2⟩) (run_main m ρ)

end Cert.Proof.KernelIdeal

end
-- ==== Proof.RefRun.lean ====
/-
  The run of the reference: a straight line of host operations, so each buffer ends at the operations' fold over what the
  launch memory holds. The line is cut into eight stages (areas, intersections, ratios, column maxima, matches, clamped
  matches, labels taken, labels); a stage's result is a named function of what the stage reads, and the three results of
  the reference are those functions composed.
-/
module

public import proofs.«01_k».proof.Defs
public import Idealize.ShloMosaic.Lib.StableHlo.Run
public import proofs.«01_k».proof.Proof.Gen.ReferenceIdeal

@[expose] public section

noncomputable section

namespace Cert.Proof.ReferenceIdeal

open Idealize.ShloMosaic Idealize.SL.Sem Idealize.ShloMosaic.StableHlo
open Cert.ReferenceIdeal Cert.ReferenceIdeal.Gen

variable {F : FTy → Type} [FloatOps F]

/-! ## The values -/

/-- A ground-truth box's area: (x1 − x0) * (y1 − y0). -/
def areaG (B : FVec F S128x4 .f32) : FVec F S128 .f32 :=
  mulf
    (subf (shapeCast S128 (extractStridedSlice S128x1 ![0, 2] B slices_S128x4_S128x1_0_2) shapeCasts_S128x1_S128)
      (shapeCast S128 (extractStridedSlice S128x1 ![0, 0] B slices_S128x4_S128x1_0_0) shapeCasts_S128x1_S128))
    (subf (shapeCast S128 (extractStridedSlice S128x1 ![0, 3] B slices_S128x4_S128x1_0_3) shapeCasts_S128x1_S128)
      (shapeCast S128 (extractStridedSlice S128x1 ![0, 1] B slices_S128x4_S128x1_0_1) shapeCasts_S128x1_S128))

/-- A proposal's area. -/
def areaP (A : FVec F S20000x4 .f32) : FVec F S20000 .f32 :=
  mulf
    (subf (shapeCast S20000 (extractStridedSlice S20000x1 ![0, 2] A slices_S20000x4_S20000x1_0_2) shapeCasts_S20000x1_S20000)
      (shapeCast S20000 (extractStridedSlice S20000x1 ![0, 0] A slices_S20000x4_S20000x1_0_0) shapeCasts_S20000x1_S20000))
    (subf (shapeCast S20000 (extractStridedSlice S20000x1 ![0, 3] A slices_S20000x4_S20000x1_0_3) shapeCasts_S20000x1_S20000)
      (shapeCast S20000 (extractStridedSlice S20000x1 ![0, 1] A slices_S20000x4_S20000x1_0_1) shapeCasts_S20000x1_S20000))

/-- The intersections' two sides, clamped at zero from below. -/
def sides (A : FVec F S20000x4 .f32) (B : FVec F S128x4 .f32) : FVec F S128x20000x2 .f32 :=
  maximumf (broadcastInDim S128x20000x2 ![] bcast_S_S128x20000x2 (constant S_ .f32 0x00000000#32))
    (subf
      (minimumf
        (broadcastInDim S128x20000x2 ![0, 1, 2] bcast_S128x1x2_S128x20000x2_0_1_2
          (broadcastInDim S128x1x2 ![0, 2] bcast_S128x2_S128x1x2_0_2 (extractStridedSlice S128x2 ![0, 2] B slices_S128x4_S128x2_0_2)))
        (broadcastInDim S128x20000x2 ![0, 1, 2] bcast_S1x20000x2_S128x20000x2_0_1_2
          (broadcastInDim S1x20000x2 ![1, 2] bcast_S20000x2_S1x20000x2_1_2 (extractStridedSlice S20000x2 ![0, 2] A slices_S20000x4_S20000x2_0_2))))
      (maximumf
        (broadcastInDim S128x20000x2 ![0, 1, 2] bcast_S128x1x2_S128x20000x2_0_1_2
          (broadcastInDim S128x1x2 ![0, 2] bcast_S128x2_S128x1x2_0_2 (extractStridedSlice S128x2 ![0, 0] B slices_S128x4_S128x2_0_0)))
        (broadcastInDim S128x20000x2 ![0, 1, 2] bcast_S1x20000x2_S128x20000x2_0_1_2
          (broadcastInDim S1x20000x2 ![1, 2] bcast_S20000x2_S1x20000x2_1_2 (extractStridedSlice S20000x2 ![0, 0] A slices_S20000x4_S20000x2_0_0)))))

/-- The intersections: the products of the sides. -/
def inter (A : FVec F S20000x4 .f32) (B : FVec F S128x4 .f32) : FVec F S128x20000 .f32 :=
  mulf
    (shapeCast S128x20000 (extractStridedSlice S128x20000x1 ![0, 0, 0] (sides A B) slices_S128x20000x2_S128x20000x1_0_0_0) shapeCasts_S128x20000x1_S128x20000)
    (shapeCast S128x20000 (extractStridedSlice S128x20000x1 ![0, 0, 1] (sides A B) slices_S128x20000x2_S128x20000x1_0_0_1) shapeCasts_S128x20000x1_S128x20000)

/-- The ratios from the two columns of areas and the intersections: each intersection over the sum of the areas less it. -/
def ratio (b : FVec F S128 .f32) (a : FVec F S20000 .f32) (I : FVec F S128x20000 .f32) : FVec F S128x20000 .f32 :=
  Host.divf I
    (subf
      (addf (broadcastInDim S128x20000 ![0, 1] bcast_S128x1_S128x20000_0_1 (broadcastInDim S128x1 ![0] bcast_S128_S128x1_0 b))
        (broadcastInDim S128x20000 ![0, 1] bcast_S1x20000_S128x20000_0_1 (broadcastInDim S1x20000 ![1] bcast_S20000_S1x20000_1 a)))
      I)

/-- The column maxima of a matrix of ratios. -/
def colMax (M : FVec F S128x20000 .f32) : FVec F S20000 .f32 :=
  Host.reduce FloatOps.maximumf M (constant S_ .f32 0xFF800000#32) reducesTo_S128x20000_S20000_d0 h_S_

/-- The column argmaxima of a matrix of ratios. -/
def colArg (M : FVec F S128x20000 .f32) : IVec S20000 32 :=
  fun j => (Host.argReduce reducer_argmax_f32_i32 M (iotaInDim S128x20000 32 0) (constant S_ .f32 0xFF800000#32)
    (constantI S_ 32 0#32) reducesTo_S128x20000_S20000_d0 h_S_ j).2

/-- The threshold, one half, in every place. -/
def half : FVec F S20000 .f32 := broadcastInDim S20000 ![] bcast_S_S20000 (constant S_ .f32 0x3F000000#32)

/-- A 32-bit word in every place. -/
def word (w : BitVec 32) : IVec S20000 32 := broadcastInDim S20000 ![] bcast_S_S20000 (constantI S_ 32 w)

/-- The matches: −1 below the threshold, −2 between the two (equal) thresholds, else the argmaximum. -/
def matched (b : FVec F S20000 .f32) (i : IVec S20000 32) : IVec S20000 32 :=
  select (andi (cmpf .oge b half) (cmpf .olt b half)) (word 4294967294#32)
    (select (cmpf .olt b half) (word 4294967295#32) i)

/-- The matches clamped at zero from below. -/
def clamped (k : IVec S20000 32) : IVec S20000 32 := maxsi (word 0#32) k

/-- The positions the labels are taken at: those below zero counted from the end. -/
def wrapped (k : IVec S20000 32) : IVec S20000x1 32 :=
  broadcastInDim S20000x1 ![0] bcast_S20000_S20000x1_0 (select (cmpi .slt k (word 0#32)) (addi k (word 128#32)) k)

/-- The labels taken at the positions, the smallest integer where a position lies outside the table. -/
def taken (T : IVec S128 32) (k : IVec S20000 32) : IVec S20000 32 :=
  select
    (Host.reduce IntOp.andi
      (andi (cmpi .sge (wrapped k) (broadcastInDim S20000x1 ![] bcast_S_S20000x1 (constantI S_ 32 0#32)))
        (cmpi .sle (wrapped k) (broadcastInDim S20000x1 ![0, 1] bcast_S1x1_S20000x1_0_1 (broadcastInDim S1x1 ![1] bcast_S1_S1x1_1 (constantI S1 32 127#32)))))
      (constantI S_ 1 1#1) reducesTo_S20000x1_S20000_d1 h_S_)
    (Host.gather gather_S128_S20000x1_S20000_n_0_n_n_0_1_1 T (wrapped k))
    (word 2147483648#32)

/-- The labels: 0 where nothing matched, −1 where the match is to be ignored. -/
def labelled (k t : IVec S20000 32) : IVec S20000 32 :=
  select (cmpi .eq k (word 4294967294#32)) (word 4294967295#32) (select (cmpi .eq k (word 4294967295#32)) (word 0#32) t)

/-! ## The operations -/

/-- The operations of the areas of the ground-truth boxes and of the proposals. -/
abbrev areaOps : List (HloOp τ sig (Elt F)) :=
  [ unary main_arg1 main_v0 (extractStridedSlice S128x1 ![0, 2] · slices_S128x4_S128x1_0_2),
    reshape main_v0 main_v1 rfl shapeCasts_S128x1_S128,
    unary main_arg1 main_v2 (extractStridedSlice S128x1 ![0, 0] · slices_S128x4_S128x1_0_0),
    reshape main_v2 main_v3 rfl shapeCasts_S128x1_S128,
    binary main_v1 main_v3 main_v4 subf,
    unary main_arg1 main_v5 (extractStridedSlice S128x1 ![0, 3] · slices_S128x4_S128x1_0_3),
    reshape main_v5 main_v6 rfl shapeCasts_S128x1_S128,
    unary main_arg1 main_v7 (extractStridedSlice S128x1 ![0, 1] · slices_S128x4_S128x1_0_1),
    reshape main_v7 main_v8 rfl shapeCasts_S128x1_S128,
    binary main_v6 main_v8 main_v9 subf,
    binary main_v4 main_v9 main_v10 mulf,
    unary main_arg0 main_v11 (extractStridedSlice S20000x1 ![0, 2] · slices_S20000x4_S20000x1_0_2),
    reshape main_v11 main_v12 rfl shapeCasts_S20000x1_S20000,
    unary main_arg0 main_v13 (extractStridedSlice S20000x1 ![0, 0] · slices_S20000x4_S20000x1_0_0),
    reshape main_v13 main_v14 rfl shapeCasts_S20000x1_S20000,
    binary main_v12 main_v14 main_v15 subf,
    unary main_arg0 main_v16 (extractStridedSlice S20000x1 ![0, 3] · slices_S20000x4_S20000x1_0_3),
    reshape main_v16 main_v17 rfl shapeCasts_S20000x1_S20000,
    unary main_arg0 main_v18 (extractStridedSlice S20000x1 ![0, 1] · slices_S20000x4_S20000x1_0_1),
    reshape main_v18 main_v19 rfl shapeCasts_S20000x1_S20000,
    binary main_v17 main_v19 main_v20 subf,
    binary main_v15 main_v20 main_v21 mulf ]

/-- The operations of the pairwise intersections. -/
abbrev interOps : List (HloOp τ sig (Elt F)) :=
  [ unary main_arg1 main_v22 (extractStridedSlice S128x2 ![0, 0] · slices_S128x4_S128x2_0_0),
    unary main_v22 main_v23 (broadcastInDim S128x1x2 ![0, 2] bcast_S128x2_S128x1x2_0_2),
    unary main_arg0 main_v24 (extractStridedSlice S20000x2 ![0, 0] · slices_S20000x4_S20000x2_0_0),
    unary main_v24 main_v25 (broadcastInDim S1x20000x2 ![1, 2] bcast_S20000x2_S1x20000x2_1_2),
    unary main_v23 main_v26 (broadcastInDim S128x20000x2 ![0, 1, 2] bcast_S128x1x2_S128x20000x2_0_1_2),
    unary main_v25 main_v27 (broadcastInDim S128x20000x2 ![0, 1, 2] bcast_S1x20000x2_S128x20000x2_0_1_2),
    binary main_v26 main_v27 main_v28 maximumf,
    unary main_arg1 main_v29 (extractStridedSlice S128x2 ![0, 2] · slices_S128x4_S128x2_0_2),
    unary main_v29 main_v30 (broadcastInDim S128x1x2 ![0, 2] bcast_S128x2_S128x1x2_0_2),
    unary main_arg0 main_v31 (extractStridedSlice S20000x2 ![0, 2] · slices_S20000x4_S20000x2_0_2),
    unary main_v31 main_v32 (broadcastInDim S1x20000x2 ![1, 2] bcast_S20000x2_S1x20000x2_1_2),
    unary main_v30 main_v33 (broadcastInDim S128x20000x2 ![0, 1, 2] bcast_S128x1x2_S128x20000x2_0_1_2),
    unary main_v32 main_v34 (broadcastInDim S128x20000x2 ![0, 1, 2] bcast_S1x20000x2_S128x20000x2_0_1_2),
    binary main_v33 main_v34 main_v35 minimumf,
    binary main_v35 main_v28 main_v36 subf,
    nullary main_cst (constant S_ .f32 0x00000000#32),
    TRef.unary (.of main_cst rfl) main_call0.v0 id,
    TRef.unary main_call0.v0 main_call0.v1 (broadcastInDim S128x20000x2 ![] bcast_S_S128x20000x2),
    TRef.binary main_call0.v1 (.of main_v36 rfl) main_call0.v2 maximumf,
    unary main_v37 main_v38 (extractStridedSlice S128x20000x1 ![0, 0, 0] · slices_S128x20000x2_S128x20000x1_0_0_0),
    reshape main_v38 main_v39 rfl shapeCasts_S128x20000x1_S128x20000,
    unary main_v37 main_v40 (extractStridedSlice S128x20000x1 ![0, 0, 1] · slices_S128x20000x2_S128x20000x1_0_0_1),
    reshape main_v40 main_v41 rfl shapeCasts_S128x20000x1_S128x20000,
    binary main_v39 main_v41 main_v42 mulf ]

/-- The operations of the pairwise intersections over unions. -/
abbrev iouOps : List (HloOp τ sig (Elt F)) :=
  [ unary main_v10 main_v43 (broadcastInDim S128x1 ![0] bcast_S128_S128x1_0),
    unary main_v21 main_v44 (broadcastInDim S1x20000 ![1] bcast_S20000_S1x20000_1),
    unary main_v43 main_v45 (broadcastInDim S128x20000 ![0, 1] bcast_S128x1_S128x20000_0_1),
    unary main_v44 main_v46 (broadcastInDim S128x20000 ![0, 1] bcast_S1x20000_S128x20000_0_1),
    binary main_v45 main_v46 main_v47 addf,
    binary main_v47 main_v42 main_v48 subf,
    binary main_v42 main_v48 main_v49 Host.divf ]

/-- The operations of the column maxima and the column argmaxima. -/
abbrev bestOps : List (HloOp τ sig (Elt F)) :=
  [ nullary main_cst_0 (constant S_ .f32 0xFF800000#32),
    binary main_v49 main_cst_0 main_v50 (fun x v => Host.reduce FloatOps.maximumf x v reducesTo_S128x20000_S20000_d0 h_S_),
    TRef.nullary main_call1.v0 (iotaInDim S128x20000 32 0),
    TRef.nullary main_call1.cst (constant S_ .f32 0xFF800000#32),
    TRef.nullary main_call1.c (constantI S_ 32 0#32),
    TRef.quaternary (.of main_v49 rfl) main_call1.v0 main_call1.cst main_call1.c main_call1.v1_0 (fun x y u v j => (Host.argReduce reducer_argmax_f32_i32 x y u v reducesTo_S128x20000_S20000_d0 h_S_ j).1),
    TRef.quaternary (.of main_v49 rfl) main_call1.v0 main_call1.cst main_call1.c main_call1.v1_1 (fun x y u v j => (Host.argReduce reducer_argmax_f32_i32 x y u v reducesTo_S128x20000_S20000_d0 h_S_ j).2) ]

/-- The operations of the matches, negative where nothing matches. -/
abbrev matchOps : List (HloOp τ sig (Elt F)) :=
  [ nullary main_cst_1 (constant S_ .f32 0x3F000000#32),
    unary main_cst_1 main_v52 (broadcastInDim S20000 ![] bcast_S_S20000),
    binary main_v50 main_v52 main_v53 (cmpf .olt),
    nullary main_cst_2 (constant S_ .f32 0x3F000000#32),
    unary main_cst_2 main_v54 (broadcastInDim S20000 ![] bcast_S_S20000),
    binary main_v50 main_v54 main_v55 (cmpf .oge),
    nullary main_cst_3 (constant S_ .f32 0x3F000000#32),
    unary main_cst_3 main_v56 (broadcastInDim S20000 ![] bcast_S_S20000),
    binary main_v50 main_v56 main_v57 (cmpf .olt),
    binary main_v55 main_v57 main_v58 andi,
    nullary main_c (constantI S_ 32 4294967295#32),
    TRef.unary (.of main_c rfl) main_call2.v0 id,
    TRef.unary main_call2.v0 main_call2.v1 (broadcastInDim S20000 ![] bcast_S_S20000),
    TRef.ternary (.of main_v53 rfl) main_call2.v1 (.of main_v51 rfl) main_call2.v2 select,
    nullary main_c_4 (constantI S_ 32 4294967294#32),
    TRef.unary (.of main_c_4 rfl) main_call3.v0 id,
    TRef.unary main_call3.v0 main_call3.v1 (broadcastInDim S20000 ![] bcast_S_S20000),
    TRef.ternary (.of main_v58 rfl) main_call3.v1 (.of main_v59 rfl) main_call3.v2 select ]

/-- The operations of the matches clamped at zero. -/
abbrev clampOps : List (HloOp τ sig (Elt F)) :=
  [ nullary main_c_5 (constantI S_ 32 0#32),
    TRef.unary (.of main_c_5 rfl) main_call4.v0 id,
    TRef.unary main_call4.v0 main_call4.v1 (broadcastInDim S20000 ![] bcast_S_S20000),
    TRef.binary main_call4.v1 (.of main_v60 rfl) main_call4.v2 maxsi ]

/-- The operations of the labels taken at the clamped matches. -/
abbrev takeOps : List (HloOp τ sig (Elt F)) :=
  [ TRef.nullary main_call5.c (constantI S_ 32 0#32),
    TRef.unary main_call5.c main_call5.v0 (broadcastInDim S20000 ![] bcast_S_S20000),
    TRef.binary (.of main_v61 rfl) main_call5.v0 main_call5.v1 (cmpi .slt),
    TRef.nullary main_call5.c_0 (constantI S_ 32 128#32),
    TRef.unary main_call5.c_0 main_call5.v2 (broadcastInDim S20000 ![] bcast_S_S20000),
    TRef.binary (.of main_v61 rfl) main_call5.v2 main_call5.v3 addi,
    TRef.ternary main_call5.v1 main_call5.v3 (.of main_v61 rfl) main_call5.call0.v0 select,
    TRef.unary main_call5.call0.v0 main_call5.v5 (broadcastInDim S20000x1 ![0] bcast_S20000_S20000x1_0),
    TRef.nullary main_call5.c_1 (constantI S1 32 127#32),
    TRef.nullary main_call5.c_2 (constantI S_ 32 0#32),
    TRef.unary main_call5.c_2 main_call5.v6 (broadcastInDim S20000x1 ![] bcast_S_S20000x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S20000x1 ![0, 1] bcast_S1x1_S20000x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S20000x1_S20000_d1 h_S_),
    TRef.binary (.of main_arg2 rfl) main_call5.v5 main_call5.v13 (fun x i => Host.gather gather_S128_S20000x1_S20000_n_0_n_n_0_1_1 x i),
    TRef.nullary main_call5.c_4 (constantI S_ 32 2147483648#32),
    TRef.unary main_call5.c_4 main_call5.v14 (broadcastInDim S20000 ![] bcast_S_S20000),
    TRef.ternary main_call5.v12 main_call5.v13 main_call5.v14 main_call5.v15 select ]

/-- The operations of the labels with the unmatched replaced. -/
abbrev labelOps : List (HloOp τ sig (Elt F)) :=
  [ nullary main_c_6 (constantI S_ 32 4294967295#32),
    unary main_c_6 main_v63 (broadcastInDim S20000 ![] bcast_S_S20000),
    binary main_v60 main_v63 main_v64 (cmpi .eq),
    nullary main_c_7 (constantI S_ 32 0#32),
    TRef.unary (.of main_c_7 rfl) main_call6.v0 id,
    TRef.unary main_call6.v0 main_call6.v1 (broadcastInDim S20000 ![] bcast_S_S20000),
    TRef.ternary (.of main_v64 rfl) main_call6.v1 (.of main_v62 rfl) main_call6.v2 select,
    nullary main_c_8 (constantI S_ 32 4294967294#32),
    unary main_c_8 main_v66 (broadcastInDim S20000 ![] bcast_S_S20000),
    binary main_v60 main_v66 main_v67 (cmpi .eq),
    nullary main_c_9 (constantI S_ 32 4294967295#32),
    TRef.unary (.of main_c_9 rfl) main_call7.v0 id,
    TRef.unary main_call7.v0 main_call7.v1 (broadcastInDim S20000 ![] bcast_S_S20000),
    TRef.ternary (.of main_v67 rfl) main_call7.v1 (.of main_v65 rfl) main_call7.v2 select ]

/-- All of the reference's operations, in order. -/
abbrev ops : List (HloOp τ sig (Elt F)) :=
  areaOps ++ (interOps ++ (iouOps ++ (bestOps ++ (matchOps ++ (clampOps ++ (takeOps ++ (labelOps)))))))
/-- A host buffer as a buffer of the device. -/
abbrev dr (b : Ref sig .tc) : DevRef τ sig := Proc.devRef .tc b

/-- A fold over two lists joined is the fold over the second from the fold over the first. -/
theorem after_join (l k : List (HloOp τ sig (Elt F))) (V : Valuation τ sig (Elt F)) :
    after (l ++ k) V = after k (after l V) := by
  induction l generalizing V with
  | nil => rfl
  | cons o l ih => exact ih _

set_option maxHeartbeats 4000000 in
set_option maxRecDepth 100000 in
/-- The reference's code is its operations in sequence. -/
theorem main_eq (c : Dev nD) : main (F := F) c = seq ops := by
  simp only [main, main_part0, main_part1, fn_clip.body, fn_argmax.body, fn_where.body, fn_clip_0.body, fn_where_1.body,
    fn_take.body, List.cons_append, List.nil_append, seq, bind_assoc, pure_bind]
  rfl

/-! ## The stages read -/

theorem area_g (V : Valuation τ sig (Elt F)) :
    after areaOps V (dr main_v10) = areaG (V (dr main_arg1)) := by
  after_results_simp; rfl

theorem area_p (V : Valuation τ sig (Elt F)) :
    after areaOps V (dr main_v21) = areaP (V (dr main_arg0)) := by
  after_results_simp; rfl

theorem inter_at (V : Valuation τ sig (Elt F)) :
    after interOps V (dr main_v42) = inter (V (dr main_arg0)) (V (dr main_arg1)) := by
  after_results_simp; rfl

theorem iou_at (V : Valuation τ sig (Elt F)) :
    after iouOps V (dr main_v49)
      = ratio (V (dr main_v10)) (V (dr main_v21)) (V (dr main_v42)) := by
  after_results_simp; rfl

theorem best_at (V : Valuation τ sig (Elt F)) :
    after bestOps V (dr main_v50) = colMax (V (dr main_v49)) := by
  after_results_simp; rfl

theorem arg_at (V : Valuation τ sig (Elt F)) :
    after bestOps V (dr main_v51) = colArg (V (dr main_v49)) := by
  after_results_simp; rfl

theorem match_at (V : Valuation τ sig (Elt F)) :
    after matchOps V (dr main_v60) = matched (V (dr main_v50)) (V (dr main_v51)) := by
  after_results_simp; rfl

theorem clamp_at (V : Valuation τ sig (Elt F)) :
    after clampOps V (dr main_v61) = clamped (V (dr main_v60)) := by
  after_results_simp; rfl

set_option maxRecDepth 100000 in
theorem take_at (V : Valuation τ sig (Elt F)) :
    after takeOps V (dr main_v62) = taken (V (dr main_arg2)) (V (dr main_v61)) := by
  after_results_simp; rfl

theorem label_at (V : Valuation τ sig (Elt F)) :
    after labelOps V (dr main_v68) = labelled (V (dr main_v60)) (V (dr main_v62)) := by
  after_results_simp; rfl

/-! ## The run -/

/-- The operations read and write the TensorCore's buffers. -/
theorem ops_sub : (ops : List (HloOp τ sig (Elt F))).Forall fun op => op.bufs ⊆ tcRefs τ sig := by
  simp

theorem scopedRefs_eq : (Finset.univ.filter fun b : Ref sig .tc => b.isScoped) = ∅ := by decide
theorem scopedSems_eq : (Finset.univ.filter fun sm : SemLoc sig => sm.isScoped .tc) = ∅ := by decide

/-- From any launch memory with zero counters every weakly fair execution of the reference terminates, each of the
    TensorCore's buffers then at the operations' fold over the launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (dr b) :=
  run_seq scopedRefs_eq scopedSems_eq defs main (fun _ => ops) main_eq (fun _ => ops_sub) m ρ

/-! ## The results and the arguments after the run -/

section
variable (V : Valuation τ sig (Elt F))

/-- The fold in its stages. -/
theorem after_ops : after ops V
    = after labelOps (after takeOps (after clampOps (after matchOps (after bestOps (after iouOps (after interOps (after areaOps V))))))) := by
  simp only [ops, after_join]

/-- The matrix of ratios of the two arguments: a row for each ground-truth box, a column for each proposal. -/
def iou (A : FVec F S20000x4 .f32) (B : FVec F S128x4 .f32) : FVec F S128x20000 .f32 := ratio (areaG B) (areaP A) (inter A B)

/-- The matches of the two arguments. -/
def found (A : FVec F S20000x4 .f32) (B : FVec F S128x4 .f32) : IVec S20000 32 := matched (colMax (iou A B)) (colArg (iou A B))

theorem area_keeps0 : after areaOps V (dr main_arg0) = V (dr main_arg0) := by after_results_simp
theorem area_keeps1 : after areaOps V (dr main_arg1) = V (dr main_arg1) := by after_results_simp
theorem inter_keeps_g : after interOps V (dr main_v10) = V (dr main_v10) := by after_results_simp
theorem inter_keeps_p : after interOps V (dr main_v21) = V (dr main_v21) := by after_results_simp

/-- After the first three stages the matrix of ratios is the two arguments' one. -/
theorem ratios_at : after iouOps (after interOps (after areaOps V)) (dr main_v49) = iou (V (dr main_arg0)) (V (dr main_arg1)) := by
  rw [iou_at, inter_keeps_g, inter_keeps_p, inter_at, area_g, area_p, area_keeps0, area_keeps1]; rfl

theorem match_keeps : after matchOps V (dr main_v50) = V (dr main_v50) := by after_results_simp
theorem clamp_keeps_v50 : after clampOps V (dr main_v50) = V (dr main_v50) := by after_results_simp
theorem clamp_keeps_v60 : after clampOps V (dr main_v60) = V (dr main_v60) := by after_results_simp
theorem take_keeps_v50 : after takeOps V (dr main_v50) = V (dr main_v50) := by after_results_simp
theorem take_keeps_v60 : after takeOps V (dr main_v60) = V (dr main_v60) := by after_results_simp
theorem take_keeps_v61 : after takeOps V (dr main_v61) = V (dr main_v61) := by after_results_simp
theorem label_keeps_v50 : after labelOps V (dr main_v50) = V (dr main_v50) := by after_results_simp
theorem label_keeps_v61 : after labelOps V (dr main_v61) = V (dr main_v61) := by after_results_simp

theorem area_keeps2 : after areaOps V (dr main_arg2) = V (dr main_arg2) := by after_results_simp
theorem inter_keeps2 : after interOps V (dr main_arg2) = V (dr main_arg2) := by after_results_simp
theorem iou_keeps2 : after iouOps V (dr main_arg2) = V (dr main_arg2) := by after_results_simp
theorem best_keeps2 : after bestOps V (dr main_arg2) = V (dr main_arg2) := by after_results_simp
theorem match_keeps2 : after matchOps V (dr main_arg2) = V (dr main_arg2) := by after_results_simp
theorem clamp_keeps2 : after clampOps V (dr main_arg2) = V (dr main_arg2) := by after_results_simp

/-- The column maxima, the reference's second result. -/
theorem result2 : after ops V (dr main_v50) = colMax (iou (V (dr main_arg0)) (V (dr main_arg1))) := by
  rw [after_ops, label_keeps_v50, take_keeps_v50, clamp_keeps_v50, match_keeps, best_at, ratios_at]

theorem found_at : after matchOps (after bestOps (after iouOps (after interOps (after areaOps V)))) (dr main_v60)
    = found (V (dr main_arg0)) (V (dr main_arg1)) := by
  rw [match_at, best_at, arg_at, ratios_at]; rfl

/-- The clamped matches, the reference's third result. -/
theorem result3 : after ops V (dr main_v61) = clamped (found (V (dr main_arg0)) (V (dr main_arg1))) := by
  rw [after_ops, label_keeps_v61, take_keeps_v61, clamp_at, found_at]

/-- The labels, the reference's first result. -/
theorem result1 : after ops V (dr main_v68)
    = labelled (found (V (dr main_arg0)) (V (dr main_arg1)))
        (taken (V (dr main_arg2)) (clamped (found (V (dr main_arg0)) (V (dr main_arg1))))) := by
  rw [after_ops, label_at, take_keeps_v60, clamp_keeps_v60, take_at, clamp_at, found_at, clamp_keeps2, match_keeps2,
    best_keeps2, iou_keeps2, inter_keeps2, area_keeps2]

theorem arg0_kept : after ops V (dr main_arg0) = V (dr main_arg0) := by
  simp only [ops, after_join, after_cons, after_nil]; rfl
theorem arg1_kept : after ops V (dr main_arg1) = V (dr main_arg1) := by
  simp only [ops, after_join, after_cons, after_nil]; rfl
theorem arg2_kept : after ops V (dr main_arg2) = V (dr main_arg2) := by
  simp only [ops, after_join, after_cons, after_nil]; rfl

end

end Cert.Proof.ReferenceIdeal

end
-- ==== Proof.Scores.lean ====
/-
  The matcher's numbers at the extended reals. An overlap is `⊥` or at least zero, and at least zero as soon as the two areas
  do not add up to zero. What the sweep of the 128 scores ends at, what a fold of maxima ends at, and what a fold of the
  arg-max's body ends at, each said without its order; and that the three agree.
-/
module

public import proofs.«01_k».proof.Proof.Spec
public import Idealize.ShloMosaic.PureOps.Ideal.Laws
public import Idealize.ShloMosaic.Lib.StableHlo.Predicate

@[expose] public section

noncomputable section

namespace Cert.Proof.Matcher

open Idealize.ShloMosaic Ideal

/-! ## The constants, the compares and the selects -/

theorem ofBits_half : Ideal.ofBits .f32 0x3F000000#32 = ((1 / 2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

theorem ofBits_neg_inf : Ideal.ofBits .f32 0xFF800000#32 = ⊥ := by simp [Ideal.ofBits, Ideal.ieee]

/-- A select on a condition's bit is the condition's `if`. -/
theorem select_ofBool {α : Type} (p : Prop) [Decidable p] (a b : α) :
    Scalar.select (BitVec.ofBool (decide p)) a b = if p then a else b := by
  by_cases h : p <;> simp [Scalar.select, h]

theorem select_ogt {α : Type} (x y : EReal) (a b : α) : Scalar.select (Ideal.cmp .ogt x y) a b = if y < x then a else b :=
  select_ofBool _ a b

theorem select_olt {α : Type} (x y : EReal) (a b : α) : Scalar.select (Ideal.cmp .olt x y) a b = if x < y then a else b :=
  select_ofBool _ a b

/-! ## The overlap -/

/-- The part two intervals share, clamped at zero, lies within the first when it is not zero. -/
theorem side_le {p0 p2 g0 g2 : EReal} (h : 0 < max (min p2 g2 - max p0 g0) 0) :
    max (min p2 g2 - max p0 g0) 0 ≤ p2 - p0 ∧ max (min p2 g2 - max p0 g0) 0 ≤ g2 - g0 := by
  have hd : 0 < min p2 g2 - max p0 g0 := by
    rcases lt_max_iff.mp h with h | h
    · exact h
    · exact absurd h (lt_irrefl _)
  rw [max_eq_left hd.le]
  exact ⟨EReal.sub_le_sub (min_le_left _ _) (le_max_left _ _), EReal.sub_le_sub (min_le_right _ _) (le_max_right _ _)⟩

/-- An overlap is at least zero unless the intersection and the union are both zero. -/
theorem div_nonneg_of {x a b : EReal} (h0 : 0 ≤ x) (ha : 0 < x → x ≤ a) (hb : 0 < x → x ≤ b) :
    (x = 0 ∧ a + b = 0 ∧ Ideal.div x (a + b - x) = ⊥) ∨ 0 ≤ Ideal.div x (a + b - x) := by
  rcases h0.eq_or_lt with h | h
  · subst h
    unfold Ideal.div
    by_cases hs : a + b = 0
    · left; simp [hs]
    · right
      rw [sub_zero, if_neg hs, zero_mul]
  · right
    have hsum : x ≤ a + b := by
      have := add_le_add (ha h) (le_trans h.le (hb h))
      rwa [add_zero] at this
    unfold Ideal.div
    split
    · simp [h]
    · rcases eq_or_ne x ⊤ with ht | ht
      · have : a + b = ⊤ := top_le_iff.mp (ht ▸ hsum)
        rw [this, ht]
        simp
      · have hbot : x ≠ ⊥ := (lt_trans EReal.bot_lt_zero h).ne'
        have hU : 0 ≤ a + b - x := by
          rw [← EReal.sub_self ht hbot]
          exact EReal.sub_le_sub hsum le_rfl
        exact mul_nonneg h.le (EReal.inv_nonneg_of_nonneg hU)

/-- An overlap is `⊥`, the areas then adding up to zero, or at least zero. -/
theorem overlap_cases (p0 p1 p2 p3 g0 g1 g2 g3 : EReal) :
    ((p2 - p0) * (p3 - p1) + (g2 - g0) * (g3 - g1) = 0 ∧ overlap (F := Ideal) p0 p1 p2 p3 g0 g1 g2 g3 = ⊥)
      ∨ 0 ≤ overlap (F := Ideal) p0 p1 p2 p3 g0 g1 g2 g3 := by
  have key := div_nonneg_of (x := max (min p2 g2 - max p0 g0) 0 * max (min p3 g3 - max p1 g1) 0)
    (a := (p2 - p0) * (p3 - p1)) (b := (g2 - g0) * (g3 - g1))
    (mul_nonneg (le_max_right _ _) (le_max_right _ _))
  have pos : 0 < max (min p2 g2 - max p0 g0) 0 * max (min p3 g3 - max p1 g1) 0 →
      0 < max (min p2 g2 - max p0 g0) 0 ∧ 0 < max (min p3 g3 - max p1 g1) 0 := by
    intro h
    rcases EReal.mul_pos_iff.mp h with h | h
    · exact h
    · exact absurd h.1 (not_lt.mpr (le_max_right _ _))
  have hov : overlap (F := Ideal) p0 p1 p2 p3 g0 g1 g2 g3
      = Ideal.div (max (min p2 g2 - max p0 g0) 0 * max (min p3 g3 - max p1 g1) 0)
          ((p2 - p0) * (p3 - p1) + (g2 - g0) * (g3 - g1) - max (min p2 g2 - max p0 g0) 0 * max (min p3 g3 - max p1 g1) 0) := by
    simp only [overlap, divf_def, mulf_def, subf_def, addf_def, maximumf_def, minimumf_def, ofBits_def, ofBits_zero_f32]
  rw [hov]
  rcases key
    (fun h => mul_le_mul (side_le (pos h).1).1 (side_le (pos h).2).1 (le_max_right _ _)
      ((le_max_right _ _).trans (side_le (pos h).1).1))
    (fun h => mul_le_mul (side_le (pos h).1).2 (side_le (pos h).2).2 (le_max_right _ _)
      ((le_max_right _ _).trans (side_le (pos h).1).2)) with h | h
  · exact Or.inl ⟨h.2.1, h.2.2⟩
  · exact Or.inr h

/-! ## The sweep -/

/-- What the sweep holds after `n` scores: no score is above its value; and the value is −1, at number 0, or a score, at the
    first place where it stands. -/
theorem sweep_spec (u : ℕ → EReal) (n : ℕ) :
    (∀ g < n, u g ≤ (sweep (F := Ideal) u n).1) ∧
      (((sweep (F := Ideal) u n).1 = ((-1 : ℝ) : EReal) ∧ (sweep (F := Ideal) u n).2 = 0#32) ∨
        ∃ g < n, u g = (sweep (F := Ideal) u n).1 ∧ (sweep (F := Ideal) u n).2 = BitVec.ofNat 32 g ∧
          ∀ g' < g, u g' < (sweep (F := Ideal) u n).1) := by
  induction n with
  | zero =>
    refine ⟨fun g hg => absurd hg (Nat.not_lt_zero g), Or.inl ⟨?_, rfl⟩⟩
    show Ideal.ofBits .f32 0xBF800000#32 = _
    exact ofBits_neg_one
  | succ n ih =>
    obtain ⟨hle, hat⟩ := ih
    by_cases h : (sweep (F := Ideal) u n).1 < u n
    · have e : sweep (F := Ideal) u (n + 1) = (u n, BitVec.ofNat 32 n) := by
        simp only [sweep, cmpf_def]
        rw [select_ogt, select_ogt, if_pos h, if_pos h]
      rw [e]
      have below : ∀ g < n, u g < u n := fun g hg => lt_of_le_of_lt (hle g hg) h
      refine ⟨fun g hg => ?_, Or.inr ⟨n, Nat.lt_succ_self n, rfl, rfl, below⟩⟩
      rcases Nat.lt_succ_iff_lt_or_eq.mp hg with hg | rfl
      · exact (below g hg).le
      · exact le_refl _
    · have e : sweep (F := Ideal) u (n + 1) = sweep (F := Ideal) u n := by
        conv_lhs => simp only [sweep, cmpf_def]
        rw [select_ogt, select_ogt, if_neg h, if_neg h]
      rw [e]
      refine ⟨fun g hg => ?_, ?_⟩
      · rcases Nat.lt_succ_iff_lt_or_eq.mp hg with hg | rfl
        · exact hle g hg
        · exact not_lt.mp h
      · rcases hat with hat | ⟨g, hg, hat⟩
        · exact Or.inl hat
        · exact Or.inr ⟨g, Nat.lt_succ_of_lt hg, hat⟩

/-- The sweep never falls below its start. -/
theorem sweep_ge (u : ℕ → EReal) (n : ℕ) : ((-1 : ℝ) : EReal) ≤ (sweep (F := Ideal) u n).1 := by
  induction n with
  | zero => exact ofBits_neg_one.symm.le
  | succ n ih =>
    simp only [sweep, cmpf_def]
    rw [select_ogt]
    split
    · next h => exact ih.trans h.le
    · exact ih

/-! ## The folds -/

/-- A fold of maxima ends at its start or at a value met, with nothing met above it. -/
theorem fold_max_spec {ι : Type} (x : ι → EReal) (l : List ι) (a : EReal) :
    (l.foldl (fun r i => max r (x i)) a = a ∨ ∃ i ∈ l, x i = l.foldl (fun r i => max r (x i)) a) ∧
      a ≤ l.foldl (fun r i => max r (x i)) a ∧ ∀ i ∈ l, x i ≤ l.foldl (fun r i => max r (x i)) a := by
  induction l generalizing a with
  | nil => simp
  | cons i l ih =>
    obtain ⟨h1, h2, h3⟩ := ih (max a (x i))
    rw [List.foldl_cons]
    refine ⟨?_, (le_max_left _ _).trans h2, ?_⟩
    · rcases h1 with h1 | ⟨k, hk, h1⟩
      · rcases le_total a (x i) with h | h
        · exact Or.inr ⟨i, List.mem_cons_self, by rw [h1, max_eq_right h]⟩
        · exact Or.inl (by rw [h1, max_eq_left h])
      · exact Or.inr ⟨k, List.mem_cons_of_mem _ hk, h1⟩
    · intro k hk
      rcases List.mem_cons.mp hk with rfl | hk
      · exact (le_max_right _ _).trans h2
      · exact h3 k hk

/-- A pair at least as good as another: a greater value, or the same value at a number not greater. -/
def AsGood (p q : EReal × BitVec 32) : Prop := q.1 < p.1 ∨ (q.1 = p.1 ∧ p.2.toInt ≤ q.2.toInt)

theorem AsGood.refl (p : EReal × BitVec 32) : AsGood p p := Or.inr ⟨rfl, le_refl _⟩

theorem AsGood.trans {p q r : EReal × BitVec 32} (h : AsGood p q) (h' : AsGood q r) : AsGood p r := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A body that always returns the better of its two pairs, folded, ends at its start or at a pair met, as good as each. -/
theorem fold_best_spec (f : EReal × BitVec 32 → EReal × BitVec 32 → EReal × BitVec 32)
    (hf : ∀ p q, (f p q = p ∨ f p q = q) ∧ AsGood (f p q) p ∧ AsGood (f p q) q) (l : List (EReal × BitVec 32)) (a : EReal × BitVec 32) :
    (l.foldl f a = a ∨ l.foldl f a ∈ l) ∧ AsGood (l.foldl f a) a ∧ ∀ p ∈ l, AsGood (l.foldl f a) p := by
  induction l generalizing a with
  | nil => exact ⟨Or.inl rfl, AsGood.refl a, fun p hp => absurd hp List.not_mem_nil⟩
  | cons q l ih =>
    obtain ⟨h1, h2, h3⟩ := ih (f a q)
    obtain ⟨k1, k2, k3⟩ := hf a q
    rw [List.foldl_cons]
    refine ⟨?_, h2.trans k2, ?_⟩
    · rcases h1 with h1 | h1
      · rcases k1 with k1 | k1
        · exact Or.inl (h1.trans k1)
        · exact Or.inr (by rw [h1, k1]; exact List.mem_cons_self)
      · exact Or.inr (List.mem_cons_of_mem _ h1)
    · intro p hp
      rcases List.mem_cons.mp hp with rfl | hp
      · exact h2.trans k3
      · exact h3 p hp

/-! ## The agreement -/

/-- What the reference's two reductions say of 128 scores: a maximum `M` and the number `k` of the first place it stands at. -/
structure IsMax (u : ℕ → EReal) (M : EReal) (k : BitVec 32) : Prop where
  above : ∀ g < 128, u g ≤ M
  at_first : M ≠ ⊥ → ∃ g < 128, u g = M ∧ k = BitVec.ofNat 32 g ∧ ∀ g' < g, u g' < M

/-- Scores each `⊥` or at least zero. -/
def Fair (u : ℕ → EReal) : Prop := ∀ g < 128, u g = ⊥ ∨ 0 ≤ u g

theorem neg_one_lt_zero : ((-1 : ℝ) : EReal) < 0 := by rw [← EReal.coe_zero]; exact EReal.coe_lt_coe_iff.mpr (by norm_num)

theorem zero_lt_half : (0 : EReal) < ((1 / 2 : ℝ) : EReal) := by rw [← EReal.coe_zero]; exact EReal.coe_lt_coe_iff.mpr (by norm_num)

/-- The sweep against the reductions: the same maximum at the same place, or nothing at zero or above. -/
theorem sweep_agrees {u : ℕ → EReal} {M : EReal} {k : BitVec 32} (hu : Fair u) (h : IsMax u M k) :
    ((sweep (F := Ideal) u 128).1 = M ∧ (sweep (F := Ideal) u 128).2 = k ∧ k.toNat < 128) ∨
      ((sweep (F := Ideal) u 128).1 = ((-1 : ℝ) : EReal) ∧ M = ⊥) := by
  obtain ⟨hle, hat⟩ := sweep_spec u 128
  rcases hat with ⟨h1, h2⟩ | ⟨g, hg, h1, h2, h3⟩
  · right
    refine ⟨h1, ?_⟩
    by_contra hM
    obtain ⟨g, hg, e, -⟩ := h.at_first hM
    rcases hu g hg with hb | h0
    · exact hM (e.symm.trans hb)
    · exact absurd (h0.trans ((hle g hg).trans h1.le)) (not_le.mpr neg_one_lt_zero)
  · by_cases hM : M = ⊥
    · have hb : u g = ⊥ := le_bot_iff.mp (hM ▸ h.above g hg)
      exfalso
      have := sweep_ge u 128
      rw [← h1, hb] at this
      exact absurd this (not_le.mpr (EReal.bot_lt_coe _))
    · left
      obtain ⟨g', hg', e, ek, ef⟩ := h.at_first hM
      have eM : (sweep (F := Ideal) u 128).1 = M :=
        le_antisymm (h1 ▸ h.above g hg) (e ▸ hle g' hg')
      have egg : g = g' := by
        rcases Nat.lt_trichotomy g g' with hlt | heq | hgt
        · exact absurd ((h1.trans eM)) (ef g hlt).ne
        · exact heq
        · exact absurd (e.trans eM.symm) (h3 g' hgt).ne
      refine ⟨eM, by rw [h2, ek, egg], ?_⟩
      rw [ek, BitVec.toNat_ofNat]; omega

end Cert.Proof.Matcher

end
-- ==== Proof.RefRead.lean ====
/-
  The reference's areas, intersections and ratios read at an element: an element of the ratios is the overlap of its two boxes.
-/
module

public import proofs.«01_k».proof.Proof.RefRun
public import proofs.«01_k».proof.Proof.Scores
public import Idealize.ShloMosaic.Lib.Pipeline.Value
public import Idealize.ShloMosaic.Lib.IdealHost
public import Idealize.ShloMosaic.Lib.ValueIdx
public import Idealize.ShloMosaic.Lib.ReduceAll

@[expose] public section

noncomputable section

namespace Cert.Proof.ReferenceIdeal

open Idealize.ShloMosaic Idealize.ShloMosaic.ValueIdx Idealize.ShloMosaic.Ideal
open Cert.ReferenceIdeal Cert.ReferenceIdeal.Gen

/-! ## Slices and broadcasts read at an index -/

/-- A column of a list of boxes, cut out and laid flat, read at a box. -/
theorem column {α : Type} {n : ℕ} {o : ℕ} (c : Fin 4) (ho : o = c.val) (X : (⟨2, ![n, 4]⟩ : Shape).Idx → α)
    (hs : (⟨2, ![n, 4]⟩ : Shape).Slices ![0, o] ⟨2, ![n, 1]⟩) (hc : (⟨2, ![n, 1]⟩ : Shape).ShapeCasts ⟨1, ![n]⟩) (i : Fin n) :
    shapeCast ⟨1, ![n]⟩ (extractStridedSlice ⟨2, ![n, 1]⟩ ![0, o] X hs) hc (ix1 i) = X (ix2 i c) := by
  subst ho
  rw [shapeCast_apply _ hc (ix1 i) (ix2 i 0) (by rw [Shape.rowMajor_val_one, Shape.rowMajor_val_two]; show i.val * 1 + 0 = i.val; omega),
    extractStridedSlice_apply _ X hs (ix2 i 0) (ix2 i c) (by
      intro a
      match a with
      | ⟨0, _⟩ => simp
      | ⟨1, _⟩ => simp)]

/-- A pair of columns of the ground-truth boxes, spread over the proposals. -/
theorem spread_g {α : Type} (o : ℕ) (c : Fin 4) (k : Fin 2) (hk : c.val = o + k.val) (X : S128x4.Idx → α) (hs : S128x4.Slices ![0, o] S128x2)
    (g : Fin 128) (q : Fin 20000) :
    broadcastInDim S128x20000x2 ![0, 1, 2] bcast_S128x1x2_S128x20000x2_0_1_2
      (broadcastInDim S128x1x2 ![0, 2] bcast_S128x2_S128x1x2_0_2 (extractStridedSlice S128x2 ![0, o] X hs)) (ix3 g q k)
      = X (ix2 g c) := by
  rw [broadcastInDim_apply _ _ _ (ix3 g q k) (ix3 g 0 k) (by
      intro a
      match a with
      | ⟨0, _⟩ => rfl
      | ⟨1, _⟩ => rfl
      | ⟨2, _⟩ => rfl),
    broadcastInDim_apply _ _ _ (ix3 g 0 k) (ix2 g k) (by
      intro a
      match a with
      | ⟨0, _⟩ => rfl
      | ⟨1, _⟩ => rfl),
    extractStridedSlice_apply _ X hs (ix2 g k) (ix2 g c) (by
      intro a
      match a with
      | ⟨0, _⟩ => simp
      | ⟨1, _⟩ => simp [hk])]

/-- A pair of columns of the proposals, spread over the ground-truth boxes. -/
theorem spread_p {α : Type} (o : ℕ) (c : Fin 4) (k : Fin 2) (hk : c.val = o + k.val) (X : S20000x4.Idx → α)
    (hs : S20000x4.Slices ![0, o] S20000x2) (g : Fin 128) (q : Fin 20000) :
    broadcastInDim S128x20000x2 ![0, 1, 2] bcast_S1x20000x2_S128x20000x2_0_1_2
      (broadcastInDim S1x20000x2 ![1, 2] bcast_S20000x2_S1x20000x2_1_2 (extractStridedSlice S20000x2 ![0, o] X hs)) (ix3 g q k)
      = X (ix2 q c) := by
  rw [broadcastInDim_apply _ _ _ (ix3 g q k) (ix3 0 q k) (by
      intro a
      match a with
      | ⟨0, _⟩ => rfl
      | ⟨1, _⟩ => rfl
      | ⟨2, _⟩ => rfl),
    broadcastInDim_apply _ _ _ (ix3 0 q k) (ix2 q k) (by
      intro a
      match a with
      | ⟨0, _⟩ => rfl
      | ⟨1, _⟩ => rfl),
    extractStridedSlice_apply _ X hs (ix2 q k) (ix2 q c) (by
      intro a
      match a with
      | ⟨0, _⟩ => simp
      | ⟨1, _⟩ => simp [hk])]

/-- One of a matrix of pairs' two layers, cut out and laid flat. -/
theorem layer {α : Type} {o : ℕ} (k : Fin 2) (ho : o = k.val) (X : S128x20000x2.Idx → α) (hs : S128x20000x2.Slices ![0, 0, o] S128x20000x1)
    (g : Fin 128) (q : Fin 20000) :
    shapeCast S128x20000 (extractStridedSlice S128x20000x1 ![0, 0, o] X hs) shapeCasts_S128x20000x1_S128x20000 (ix2 g q)
      = X (ix3 g q k) := by
  subst ho
  rw [shapeCast_apply _ _ (ix2 g q) (ix3 g q 0) (by rw [Shape.rowMajor_val_two, Shape.rowMajor_val_three]; simp),
    extractStridedSlice_apply _ X hs (ix3 g q 0) (ix3 g q k) (by
      intro a
      match a with
      | ⟨0, _⟩ => simp
      | ⟨1, _⟩ => simp
      | ⟨2, _⟩ => simp)]

/-- A column over the ground-truth boxes spread over the proposals. -/
theorem over_p {α : Type} (X : S128.Idx → α) (g : Fin 128) (q : Fin 20000) :
    broadcastInDim S128x20000 ![0, 1] bcast_S128x1_S128x20000_0_1 (broadcastInDim S128x1 ![0] bcast_S128_S128x1_0 X) (ix2 g q)
      = X (ix1 g) := by
  rw [broadcastInDim_apply _ _ _ (ix2 g q) (ix2 g 0) (by
      intro a
      match a with
      | ⟨0, _⟩ => rfl
      | ⟨1, _⟩ => rfl),
    broadcastInDim_apply _ _ _ (ix2 g 0) (ix1 g) (by
      intro a
      match a with
      | ⟨0, _⟩ => rfl)]

/-- A row over the proposals spread over the ground-truth boxes. -/
theorem over_g {α : Type} (X : S20000.Idx → α) (g : Fin 128) (q : Fin 20000) :
    broadcastInDim S128x20000 ![0, 1] bcast_S1x20000_S128x20000_0_1 (broadcastInDim S1x20000 ![1] bcast_S20000_S1x20000_1 X) (ix2 g q)
      = X (ix1 q) := by
  rw [broadcastInDim_apply _ _ _ (ix2 g q) (ix2 0 q) (by
      intro a
      match a with
      | ⟨0, _⟩ => rfl
      | ⟨1, _⟩ => rfl),
    broadcastInDim_apply _ _ _ (ix2 0 q) (ix1 q) (by
      intro a
      match a with
      | ⟨0, _⟩ => rfl)]

/-! ## The ratios -/

/-- A ground-truth box's area, from its corners. -/
theorem areaG_at (B : FVec Ideal S128x4 .f32) (g : Fin 128) :
    areaG B (ix1 g) = (B (ix2 g 2) - B (ix2 g 0)) * (B (ix2 g 3) - B (ix2 g 1)) := by
  unfold areaG
  rw [mulf_apply, subf_apply, subf_apply, column (o := 2) 2 rfl, column (o := 0) 0 rfl, column (o := 3) 3 rfl, column (o := 1) 1 rfl]

/-- A proposal's area, from its corners. -/
theorem areaP_at (A : FVec Ideal S20000x4 .f32) (q : Fin 20000) :
    areaP A (ix1 q) = (A (ix2 q 2) - A (ix2 q 0)) * (A (ix2 q 3) - A (ix2 q 1)) := by
  unfold areaP
  rw [mulf_apply, subf_apply, subf_apply, column (o := 2) 2 rfl, column (o := 0) 0 rfl, column (o := 3) 3 rfl, column (o := 1) 1 rfl]

/-- A side of an intersection, from the corners. -/
theorem sides_at (A : FVec Ideal S20000x4 .f32) (B : FVec Ideal S128x4 .f32) (k : Fin 2) (lo hi : Fin 4) (hlo : lo.val = 0 + k.val)
    (hhi : hi.val = 2 + k.val) (g : Fin 128) (q : Fin 20000) :
    sides A B (ix3 g q k)
      = max (min (A (ix2 q hi)) (B (ix2 g hi)) - max (A (ix2 q lo)) (B (ix2 g lo))) 0 := by
  unfold sides
  rw [maximumf_apply, subf_apply, minimumf_apply, maximumf_apply, spread_g 2 hi k hhi, spread_p 2 hi k hhi, spread_g 0 lo k hlo,
    spread_p 0 lo k hlo, broadcastInDim_scalar_apply, constant_apply, Ideal.ofBits_zero_f32, max_comm, min_comm,
    max_comm (B (ix2 g lo))]

/-- An intersection is the product of its two sides. -/
theorem inter_at_ix (A : FVec Ideal S20000x4 .f32) (B : FVec Ideal S128x4 .f32) (g : Fin 128) (q : Fin 20000) :
    inter A B (ix2 g q)
      = max (min (A (ix2 q 2)) (B (ix2 g 2)) - max (A (ix2 q 0)) (B (ix2 g 0))) 0
        * max (min (A (ix2 q 3)) (B (ix2 g 3)) - max (A (ix2 q 1)) (B (ix2 g 1))) 0 := by
  unfold inter
  rw [mulf_apply, layer (o := 0) 0 rfl, layer (o := 1) 1 rfl, sides_at A B 0 0 2 rfl rfl, sides_at A B 1 1 3 rfl rfl]

/-- An element of the ratios is the overlap of its proposal and its ground-truth box. -/
theorem iou_at_ix (A : FVec Ideal S20000x4 .f32) (B : FVec Ideal S128x4 .f32) (g : Fin 128) (q : Fin 20000) :
    iou A B (ix2 g q)
      = Matcher.overlap (F := Ideal) (A (ix2 q 0)) (A (ix2 q 1)) (A (ix2 q 2)) (A (ix2 q 3)) (B (ix2 g 0)) (B (ix2 g 1))
          (B (ix2 g 2)) (B (ix2 g 3)) := by
  unfold iou ratio
  rw [ValueIdx.hostDivf_apply, subf_apply, addf_apply, over_p, over_g, areaG_at, areaP_at, inter_at_ix, add_comm]
  simp only [Matcher.overlap, divf_def, mulf_def, subf_def, addf_def, maximumf_def, minimumf_def, ofBits_def, Ideal.ofBits_zero_f32]

end Cert.Proof.ReferenceIdeal

end
-- ==== Proof.RefColumn.lean ====
/-
  The reference's two reductions read at one proposal: a column's maximum and arg-max are the maximum of the column and the first
  place it stands at.
-/
module

public import proofs.«01_k».proof.Proof.RefRun
public import proofs.«01_k».proof.Proof.Scores
public import Idealize.ShloMosaic.Lib.Pipeline.Value
public import Idealize.ShloMosaic.Lib.IdealHost
public import Idealize.ShloMosaic.Lib.ValueIdx
public import Idealize.ShloMosaic.Lib.ReduceAll

@[expose] public section

noncomputable section

namespace Cert.Proof.ReferenceIdeal

open Idealize.ShloMosaic Idealize.ShloMosaic.ValueIdx Idealize.ShloMosaic.Ideal
open Cert.ReferenceIdeal Cert.ReferenceIdeal.Gen

/-! ## The two reductions -/

/-- An element of a matrix reduces into the result of its column. -/
theorem drop_iff {m : ℕ} (h : (⟨2, ![128, m]⟩ : Shape).ReducesTo [0] ⟨1, ![m]⟩) (i : (⟨2, ![128, m]⟩ : Shape).Idx) (q : Fin m) : h.drop i = ix1 q ↔ i 1 = q := by
  have e : (h.drop i 0).val = (i 1).val := Shape.ReducesTo.drop_apply_val_of_eq h i 0 1 (by show 0 < 1; omega) rfl
  constructor
  · intro k
    exact Fin.ext (e.symm.trans (congrArg (fun j : (⟨1, ![m]⟩ : Shape).Idx => (j 0).val) k))
  · intro k
    rw [eq_ix1 (h.drop i)]
    exact congrArg ix1 (Fin.ext (e.trans (congrArg Fin.val k)))

/-- The elements reducing into a column's result are the column's. -/
theorem mem_fiber {m : ℕ} (h : (⟨2, ![128, m]⟩ : Shape).ReducesTo [0] ⟨1, ![m]⟩) (i : (⟨2, ![128, m]⟩ : Shape).Idx) (q : Fin m) :
    i ∈ (((List.finRange (⟨2, ![128, m]⟩ : Shape).numel).map (⟨2, ![128, m]⟩ : Shape).rowMajor.symm).filter
      fun i => h.drop i = ix1 q) ↔ i 1 = q := by
  rw [List.mem_filter, decide_eq_true_eq, drop_iff h, and_iff_right]
  exact List.mem_map.2 ⟨(⟨2, ![128, m]⟩ : Shape).rowMajor i, List.mem_finRange _, Equiv.symm_apply_apply _ _⟩

/-- The arg-max's body returns the better of its two pairs. -/
theorem reducer_better (p q : EReal × BitVec 32) :
    (reducer_argmax_f32_i32 (F := Ideal) p q = p ∨ reducer_argmax_f32_i32 (F := Ideal) p q = q) ∧
      Matcher.AsGood (reducer_argmax_f32_i32 (F := Ideal) p q) p ∧ Matcher.AsGood (reducer_argmax_f32_i32 (F := Ideal) p q) q := by
  obtain ⟨x, i⟩ := p
  obtain ⟨y, j⟩ := q
  have hne : Ideal.cmp .une x x = 0#1 := by simp [Ideal.cmp]
  rcases lt_trichotomy y x with h | h | h
  · have e : reducer_argmax_f32_i32 (F := Ideal) (x, i) (y, j) = (x, i) := by
      have h1 : Ideal.cmp .ogt x y = 1#1 := by simp [Ideal.cmp, h]
      have h2 : Ideal.cmp .oeq x y = 0#1 := by simp [Ideal.cmp, h.ne']
      simp only [reducer_argmax_f32_i32, cmpf_def, h1, h2, hne, IntOp.ori, IntOp.andi]
      simp [Scalar.select]
    rw [e]
    exact ⟨Or.inl rfl, Matcher.AsGood.refl _, Or.inl h⟩
  · subst h
    have h1 : Ideal.cmp .ogt y y = 0#1 := by simp [Ideal.cmp]
    have h2 : Ideal.cmp .oeq y y = 1#1 := by simp [Ideal.cmp]
    by_cases hs : i.toInt < j.toInt
    · have e : reducer_argmax_f32_i32 (F := Ideal) (y, i) (y, j) = (y, i) := by
        simp only [reducer_argmax_f32_i32, cmpf_def, h1, h2, hne, IntOp.ori, IntOp.andi, IntOp.cmpi, BitVec.slt, decide_eq_true hs]
        simp [Scalar.select]
      rw [e]
      exact ⟨Or.inl rfl, Matcher.AsGood.refl _, Or.inr ⟨rfl, hs.le⟩⟩
    · have e : reducer_argmax_f32_i32 (F := Ideal) (y, i) (y, j) = (y, j) := by
        simp only [reducer_argmax_f32_i32, cmpf_def, h1, h2, hne, IntOp.ori, IntOp.andi, IntOp.cmpi, BitVec.slt, decide_eq_false hs]
        simp [Scalar.select]
      rw [e]
      exact ⟨Or.inr rfl, Or.inr ⟨rfl, not_lt.mp hs⟩, Matcher.AsGood.refl _⟩
  · have e : reducer_argmax_f32_i32 (F := Ideal) (x, i) (y, j) = (y, j) := by
      have h1 : Ideal.cmp .ogt x y = 0#1 := by simp [Ideal.cmp, not_lt.mpr h.le]
      have h2 : Ideal.cmp .oeq x y = 0#1 := by simp [Ideal.cmp, h.ne]
      simp only [reducer_argmax_f32_i32, cmpf_def, h1, h2, hne, IntOp.ori, IntOp.andi]
      simp [Scalar.select]
    rw [e]
    exact ⟨Or.inr rfl, Or.inl h, Matcher.AsGood.refl _⟩

/-- A column's maximum is above each of its elements, and is one of them or `⊥`. -/
theorem max_spec {m : ℕ} (M : FVec Ideal ⟨2, ![128, m]⟩ .f32) (h : (⟨2, ![128, m]⟩ : Shape).ReducesTo [0] ⟨1, ![m]⟩) (q : Fin m) (R : EReal)
    (hR : R = Host.reduce (FloatOps.maximumf (F := Ideal) (φ := .f32)) M (constant S_ .f32 0xFF800000#32) h h_S_ (ix1 q)) :
    (∀ g : Fin 128, M (ix2 g q) ≤ R) ∧ (R = ⊥ ∨ ∃ g : Fin 128, M (ix2 g q) = R) := by
  have e : R = (((List.finRange (⟨2, ![128, m]⟩ : Shape).numel).map (⟨2, ![128, m]⟩ : Shape).rowMajor.symm).filter
      fun i => h.drop i = ix1 q).foldl (fun r i => max r (M i)) (Ideal.ofBits .f32 0xFF800000#32) :=
    hR.trans (Host.reduce_eq_foldl _ M _ _ _ _)
  obtain ⟨h1, -, h3⟩ := Matcher.fold_max_spec M (((List.finRange (⟨2, ![128, m]⟩ : Shape).numel).map
      (⟨2, ![128, m]⟩ : Shape).rowMajor.symm).filter fun i => h.drop i = ix1 q) (Ideal.ofBits .f32 0xFF800000#32)
  rw [← e] at h1 h3
  refine ⟨fun g => h3 (ix2 g q) ((mem_fiber h _ q).mpr rfl), ?_⟩
  rcases h1 with h1 | ⟨i, hi, h1⟩
  · exact Or.inl (h1.trans Matcher.ofBits_neg_inf)
  · right
    refine ⟨i 0, ?_⟩
    rw [← h1, ← (mem_fiber h i q).mp hi]
    exact congrArg M (eq_ix2 i).symm

/-- The pairs a column's arg-max runs over: each element with its number. -/
theorem mem_pairs {m : ℕ} (M : FVec Ideal ⟨2, ![128, m]⟩ .f32) (h : (⟨2, ![128, m]⟩ : Shape).ReducesTo [0] ⟨1, ![m]⟩) (q : Fin m)
    (p : EReal × BitVec 32) :
    p ∈ Host.argReduceFiber M (iotaInDim ⟨2, ![128, m]⟩ 32 0) h (ix1 q) ↔ ∃ g : Fin 128, (M (ix2 g q), BitVec.ofNat 32 g.val) = p := by
  unfold Host.argReduceFiber
  rw [List.mem_map]
  constructor
  · rintro ⟨n, hn, rfl⟩
    rw [List.mem_filter, decide_eq_true_eq, drop_iff] at hn
    refine ⟨(⟨2, ![128, m]⟩ : Shape).rowMajor.symm n 0, ?_⟩
    rw [← hn.2]
    exact Prod.ext (congrArg M (eq_ix2 _).symm) rfl
  · rintro ⟨g, rfl⟩
    refine ⟨(⟨2, ![128, m]⟩ : Shape).rowMajor (ix2 g q), ?_, ?_⟩
    · rw [List.mem_filter, decide_eq_true_eq, drop_iff, Equiv.symm_apply_apply]
      exact ⟨List.mem_finRange _, rfl⟩
    · rw [Equiv.symm_apply_apply]
      rfl

/-- A column's arg-max pair is one of the column's pairs, or the start, and as good as each. -/
theorem arg_spec {m : ℕ} (M : FVec Ideal ⟨2, ![128, m]⟩ .f32) (h : (⟨2, ![128, m]⟩ : Shape).ReducesTo [0] ⟨1, ![m]⟩) (q : Fin m)
    (R : EReal × BitVec 32)
    (hR : R = Host.argReduce (reducer_argmax_f32_i32 (F := Ideal)) M (iotaInDim ⟨2, ![128, m]⟩ 32 0) (constant S_ .f32 0xFF800000#32)
      (constantI S_ 32 0#32) h h_S_ (ix1 q)) :
    (R = (⊥, 0#32) ∨ ∃ g : Fin 128, (M (ix2 g q), BitVec.ofNat 32 g.val) = R) ∧
      ∀ g : Fin 128, Matcher.AsGood R (M (ix2 g q), BitVec.ofNat 32 g.val) := by
  have e : R = (Host.argReduceFiber M (iotaInDim ⟨2, ![128, m]⟩ 32 0) h (ix1 q)).foldl (reducer_argmax_f32_i32 (F := Ideal))
      (Ideal.ofBits .f32 0xFF800000#32, 0#32) := by
    rw [hR, argReduce_eq_reduce2, Host.reduce2_eq_foldl_fiber]
    rfl
  obtain ⟨h1, -, h3⟩ := Matcher.fold_best_spec (reducer_argmax_f32_i32 (F := Ideal)) reducer_better
    (Host.argReduceFiber M (iotaInDim ⟨2, ![128, m]⟩ 32 0) h (ix1 q)) (Ideal.ofBits .f32 0xFF800000#32, 0#32)
  rw [← e] at h1 h3
  rw [Matcher.ofBits_neg_inf] at h1
  exact ⟨h1.imp id (mem_pairs M h q R).mp, fun g => h3 _ ((mem_pairs M h q _).mpr ⟨g, rfl⟩)⟩

/-- A column's maximum and its arg-max pair's number are the maximum of its elements and the number of the first place it stands at. -/
theorem isMax_of {m : ℕ} (M : FVec Ideal ⟨2, ![128, m]⟩ .f32) (q : Fin m) (u : ℕ → EReal) (hu : ∀ g : Fin 128, M (ix2 g q) = u g.val)
    (X : EReal) (R : EReal × BitVec 32) (hle : ∀ g : Fin 128, M (ix2 g q) ≤ X) (hat : X = ⊥ ∨ ∃ g : Fin 128, M (ix2 g q) = X)
    (h1 : R = (⊥, 0#32) ∨ ∃ g : Fin 128, (M (ix2 g q), BitVec.ofNat 32 g.val) = R)
    (h3 : ∀ g : Fin 128, Matcher.AsGood R (M (ix2 g q), BitVec.ofNat 32 g.val)) : Matcher.IsMax u X R.2 := by
  refine ⟨fun g hg => hu ⟨g, hg⟩ ▸ hle ⟨g, hg⟩, fun hM => ?_⟩
  obtain ⟨g₀, h₀⟩ := hat.resolve_left hM
  have top : M (ix2 g₀ q) ≤ R.1 := by
    rcases h3 g₀ with h | h
    · exact h.le
    · exact h.1.le
  rcases h1 with h1 | ⟨g, hg⟩
  · exfalso
    rw [h1, h₀] at top
    exact hM (le_bot_iff.mp top)
  · rw [← hg, h₀] at top
    have eg : M (ix2 g q) = X := le_antisymm (hle g) top
    refine ⟨g.val, g.isLt, (hu g).symm.trans eg, (congrArg Prod.snd hg).symm, fun g' hg' => ?_⟩
    have hlt : g' < 128 := hg'.trans g.isLt
    rw [← eg, ← hu ⟨g', hlt⟩]
    have h := h3 ⟨g', hlt⟩
    rw [← hg] at h
    rcases h with h | h
    · exact h
    · have := h.2
      rw [StableHlo.Predicate.toInt_ofNat_small _ (by have := g.isLt; omega),
        StableHlo.Predicate.toInt_ofNat_small _ (by show g' < _; omega)] at this
      exact absurd (Int.ofNat_le.mp this) (not_le.mpr hg')

/-- A function that is a pair's second half everywhere, read at an index. -/
theorem snd_read {ι α β : Type} {f : ι → β} (A : ι → α × β) (h : f = fun j => (A j).2) (j : ι) : f j = (A j).2 := by rw [h]

/-- The reference's column maximum and arg-max are the maximum of the column and the number of the first place it stands at. -/
theorem column_isMax (M : FVec Ideal S128x20000 .f32) (q : Fin 20000) (u : ℕ → EReal) (hu : ∀ g : Fin 128, M (ix2 g q) = u g.val) :
    Matcher.IsMax u (colMax M (ix1 q)) (colArg M (ix1 q)) := by
  rw [snd_read (Host.argReduce (reducer_argmax_f32_i32 (F := Ideal)) M (iotaInDim S128x20000 32 0) (constant S_ .f32 0xFF800000#32)
    (constantI S_ 32 0#32) reducesTo_S128x20000_S20000_d0 h_S_) (f := colArg M) rfl (ix1 q)]
  exact isMax_of M q u hu _ _ (max_spec M reducesTo_S128x20000_S20000_d0 q _ rfl).1
    (max_spec M reducesTo_S128x20000_S20000_d0 q _ rfl).2 (arg_spec M reducesTo_S128x20000_S20000_d0 q _ rfl).1
    (arg_spec M reducesTo_S128x20000_S20000_d0 q _ rfl).2

end Cert.Proof.ReferenceIdeal

end
-- ==== Proof.RefLabel.lean ====
/-
  The reference's matches and labels read at one proposal, from the column's maximum and arg-max.
-/
module

public import proofs.«01_k».proof.Proof.RefRun
public import proofs.«01_k».proof.Proof.Scores
public import Idealize.ShloMosaic.Lib.Pipeline.Value
public import Idealize.ShloMosaic.Lib.IdealHost
public import Idealize.ShloMosaic.Lib.ValueIdx
public import Idealize.ShloMosaic.Lib.ReduceAll

@[expose] public section

noncomputable section

namespace Cert.Proof.ReferenceIdeal

open Idealize.ShloMosaic Idealize.ShloMosaic.ValueIdx Idealize.ShloMosaic.Ideal
open Cert.ReferenceIdeal Cert.ReferenceIdeal.Gen

/-! ## The matches and the labels -/

theorem word_at (w : BitVec 32) (j : S20000.Idx) : word w j = w := rfl

theorem half_at (j : S20000.Idx) : half (F := Ideal) j = ((1 / 2 : ℝ) : EReal) := Matcher.ofBits_half

/-- A proposal's match: −1 below the threshold, else the arg-max. -/
theorem matched_at (b : FVec Ideal S20000 .f32) (i : IVec S20000 32) (j : S20000.Idx) :
    matched b i j = if b j < ((1 / 2 : ℝ) : EReal) then 4294967295#32 else i j := by
  unfold matched
  rw [select_apply, select_apply, word_at, word_at, cmpf_apply, half_at, cmpf_def]
  have hand : andi (cmpf .oge b half) (cmpf .olt b half) j = 0#1 := by
    show IntOp.andi (Ideal.cmp .oge (b j) (half (F := Ideal) j)) (Ideal.cmp .olt (b j) (half (F := Ideal) j)) = 0#1
    by_cases h : b j < half (F := Ideal) j
    · simp [Ideal.cmp, IntOp.andi, h, not_le.mpr h]
    · simp [Ideal.cmp, IntOp.andi, h, not_lt.mp h]
  rw [hand, select_zero, Matcher.select_olt]

/-- A position below the table's length is its own wrapped position. -/
theorem wrapped_at (k : IVec S20000 32) (p : Fin 20000) (hk : (k (ix1 p)).toNat < 128) : wrapped k (ix2 p 0) = k (ix1 p) := by
  unfold wrapped
  rw [broadcastInDim_apply _ _ _ (ix2 p 0) (ix1 p) (by
      intro a
      match a with
      | ⟨0, _⟩ => rfl), select_apply]
  have h0 : cmpi .slt k (word 0#32) (ix1 p) = 0#1 := by
    refine eq_zero_of_ne_one fun h => ?_
    exact absurd ((StableHlo.Predicate.slt_iff_toNat (b := 0#32) (by omega) (by decide)).mp h) (Nat.not_lt_zero _)
  rw [h0, select_zero]

/-- The label taken at positions all below the table's length is the table's word there. -/
theorem taken_at (T : IVec S128 32) (k : IVec S20000 32) (hk : ∀ p : Fin 20000, (k (ix1 p)).toNat < 128) (p : Fin 20000) :
    taken T k (ix1 p) = Matcher.word T (k (ix1 p)).toNat := by
  unfold taken
  rw [select_apply]
  have hall : Host.reduce IntOp.andi
      (andi (cmpi .sge (wrapped k) (broadcastInDim S20000x1 ![] bcast_S_S20000x1 (constantI S_ 32 0#32)))
        (cmpi .sle (wrapped k) (broadcastInDim S20000x1 ![0, 1] bcast_S1x1_S20000x1_0_1 (broadcastInDim S1x1 ![1] bcast_S1_S1x1_1 (constantI S1 32 127#32)))))
      (constantI S_ 1 1#1) reducesTo_S20000x1_S20000_d1 h_S_ (ix1 p) = 1#1 := by
    refine Host.reduce_andi_one _ _ _ _ _ rfl fun i => ?_
    obtain ⟨r, c, rfl⟩ : ∃ r c, i = ix2 r c := ⟨_, _, eq_ix2 i⟩
    obtain rfl : c = 0 := Subsingleton.elim _ _
    show IntOp.andi (IntOp.cmpi .sge (wrapped k (ix2 r 0)) 0#32) (IntOp.cmpi .sle (wrapped k (ix2 r 0)) 127#32) = 1#1
    rw [wrapped_at k r (hk r)]
    have h := hk r
    rw [(StableHlo.Predicate.sge_iff_toNat (by omega) (by decide)).mpr (Nat.zero_le _),
      (StableHlo.Predicate.sle_iff_toNat (by omega) (by decide)).mpr (by show _ ≤ 127; omega)]
    rfl
  rw [hall, select_one]
  have hp : (ix1 p : S20000.Idx) = Shape.Idx.ofFin p := Shape.Idx.eq_ofFin (ix1 p)
  rw [hp, StableHlo.Predicate.gather_take gather_S128_S20000x1_S20000_n_0_n_n_0_1_1 rfl rfl rfl rfl T (wrapped k) p (by decide), ← hp]
  have hx : wrapped k (StableHlo.Predicate.ixP p) = k (ix1 p) :=
    (congrArg (wrapped k) (eq_ix2 (StableHlo.Predicate.ixP p))).trans (wrapped_at k p (hk p))
  have h := hk p
  refine (Matcher.word_of_eq T _ ?_).symm
  show min (wrapped k (StableHlo.Predicate.ixP p)).toInt.toNat 127 = _
  rw [hx, StableHlo.Predicate.toInt_eq_toNat_of_lt (by omega)]
  omega

/-- A match is −1 or below the table's length: clamped at zero it is below it. -/
theorem clamped_at (k : IVec S20000 32) (j : S20000.Idx) (hk : k j = 4294967295#32 ∨ (k j).toNat < 128) :
    clamped k j = if k j = 4294967295#32 then 0#32 else k j := by
  show IntOp.maxsi 0#32 (k j) = _
  rcases hk with h | h
  · rw [h]; decide
  · rw [if_neg (by intro e; rw [e] at h; exact absurd h (by decide))]
    have hi := StableHlo.Predicate.toInt_eq_toNat_of_lt (a := k j) (by omega)
    have h0 : (0#32 : BitVec 32).toInt = 0 := rfl
    unfold IntOp.maxsi
    split
    · next hs =>
      simp only [BitVec.slt, hi, h0, decide_eq_true_eq] at hs
      omega
    · rfl

/-- The label of a match that is −1 or below the table's length. -/
theorem labelled_at (k t : IVec S20000 32) (j : S20000.Idx) (hk : k j = 4294967295#32 ∨ (k j).toNat < 128) :
    labelled k t j = if k j = 4294967295#32 then 0#32 else t j := by
  show Scalar.select (IntOp.cmpi .eq (k j) 4294967294#32) 4294967295#32
    (Scalar.select (IntOp.cmpi .eq (k j) 4294967295#32) 0#32 (t j)) = _
  rcases hk with h | h
  · rw [h]; rfl
  · have h1 : k j ≠ 4294967294#32 := by intro e; rw [e] at h; exact absurd h (by decide)
    have h2 : k j ≠ 4294967295#32 := by intro e; rw [e] at h; exact absurd h (by decide)
    rw [eq_zero_of_ne_one (fun e => h1 (StableHlo.Predicate.cmpi_eq_iff.mp e)), select_zero,
      eq_zero_of_ne_one (fun e => h2 (StableHlo.Predicate.cmpi_eq_iff.mp e)), select_zero, if_neg h2]

end Cert.Proof.ReferenceIdeal

end
-- ==== Proof.Area.lean ====
/-
  The precondition read at a proposal: some ground-truth box's area and the proposal's do not add up to zero.
-/
module

public import proofs.«01_k».proof.Proof.RefColumn
public import proofs.«01_k».proof.Proof.RefRead
public import proofs.«01_k».proof.Proof.Gen.Pre_some_area

@[expose] public section

noncomputable section

namespace Cert.Proof.ReferenceIdeal

open Idealize.ShloMosaic Idealize.ShloMosaic.ValueIdx Idealize.ShloMosaic.Ideal
open Cert.ReferenceIdeal Cert.ReferenceIdeal.Gen

/-- A fold of `or` that ends at 1 started at 1 or met a 1. -/
theorem fold_or {ι : Type} (x : ι → BitVec 1) (l : List ι) (a : BitVec 1) (h : l.foldl (fun r i => IntOp.ori r (x i)) a = 1#1) :
    a = 1#1 ∨ ∃ i ∈ l, x i = 1#1 := by
  induction l generalizing a with
  | nil => exact Or.inl h
  | cons i l ih =>
    rcases ih _ h with h | ⟨k, hk, h⟩
    · rcases BitVec.eq_zero_or_eq_one (x i) with hx | hx
      · refine Or.inl ?_
        change IntOp.ori a (x i) = 1#1 at h
        rw [hx] at h
        simpa [IntOp.ori] using h
      · exact Or.inr ⟨i, List.mem_cons_self, hx⟩
    · exact Or.inr ⟨k, List.mem_cons_of_mem _ hk, h⟩

/-- A column whose `or` is 1 holds a 1. -/
theorem or_spec {m : ℕ} (X : IVec ⟨2, ![128, m]⟩ 1) (h : (⟨2, ![128, m]⟩ : Shape).ReducesTo [0] ⟨1, ![m]⟩) (q : Fin m)
    (e : Host.reduce IntOp.ori X (constantI S_ 1 0#1) h h_S_ (ix1 q) = 1#1) : ∃ g : Fin 128, X (ix2 g q) = 1#1 := by
  rw [Host.reduce_eq_foldl] at e
  rcases fold_or X _ _ e with h0 | ⟨i, hi, hx⟩
  · exact absurd h0 (by decide : ¬ (0#1 = 1#1))
  · refine ⟨i 0, ?_⟩
    rw [← hx, ← (mem_fiber h i q).mp hi]
    exact congrArg X (eq_ix2 i).symm

/-- The areas of every pair of a ground-truth box and a proposal, added. -/
def areas (A : FVec Ideal S20000x4 .f32) (B : FVec Ideal S128x4 .f32) : FVec Ideal S128x20000 .f32 :=
  addf (broadcastInDim S128x20000 ![0, 1] bcast_S128x1_S128x20000_0_1 (broadcastInDim S128x1 ![0] bcast_S128_S128x1_0 (areaG B)))
    (broadcastInDim S128x20000 ![0, 1] bcast_S1x20000_S128x20000_0_1 (broadcastInDim S1x20000 ![1] bcast_S20000_S1x20000_1 (areaP A)))

/-- The precondition is the columns' `or` of whether those sums are other than zero. -/
theorem some_area_eq (A : FVec Ideal S20000x4 .f32) (B : FVec Ideal S128x4 .f32) (T : IVec S128 32) :
    Cert.Pre_some_area.fn (F := Ideal) A B T
      = Host.reduce IntOp.ori (cmpf .une (areas A B) (broadcastInDim S128x20000 ![] Cert.Pre_some_area.Gen.facts.bcast_S_S128x20000
          (constant S_ .f32 0x00000000#32))) (constantI S_ 1 0#1) reducesTo_S128x20000_S20000_d0 h_S_ := rfl

/-- The precondition at a proposal. -/
theorem some_area_at (A : FVec Ideal S20000x4 .f32) (B : FVec Ideal S128x4 .f32) (T : IVec S128 32)
    (h : Cert.Pre_some_area.fn (F := Ideal) A B T = fun _ => 1#1) (q : Fin 20000) :
    ∃ g : Fin 128, (A (ix2 q 2) - A (ix2 q 0)) * (A (ix2 q 3) - A (ix2 q 1)) + (B (ix2 g 2) - B (ix2 g 0)) * (B (ix2 g 3) - B (ix2 g 1)) ≠ 0 := by
  rw [some_area_eq] at h
  obtain ⟨g, hg⟩ := or_spec _ reducesTo_S128x20000_S20000_d0 q (congrFun h (ix1 q))
  refine ⟨g, fun e => ?_⟩
  rw [cmpf_apply, areas, addf_apply, over_p, over_g, areaG_at, areaP_at, add_comm, e, broadcastInDim_scalar_apply, constant_apply,
    ofBits_zero_f32, cmpf_def] at hg
  simp [Ideal.cmp] at hg

end Cert.Proof.ReferenceIdeal

end
-- ==== Proof.Words.lean ====
/-
  The kernel's flat lists of words read as the boxes they are made from: the score of a proposal and a ground-truth box is their
  overlap, corner by corner, and the words padded after the last proposal are never among them.
-/
module

public import proofs.«01_k».proof.Proof.IdealRun
public import Idealize.ShloMosaic.Lib.Pipeline.Value
public import Idealize.ShloMosaic.Lib.ValueIdx

@[expose] public section

noncomputable section

namespace Cert.Proof.KernelIdeal

open Cert.KernelIdeal Cert.KernelIdeal.Gen Cert.Proof.Matcher
open Idealize.ShloMosaic Idealize.ShloMosaic.ValueIdx

variable {F : FTy → Type} [FloatOps F]

/-- A word of a flattened list of boxes is the box's corner. -/
theorem flat_word {n m : ℕ} [NeZero m] {α : Type} (X : (⟨2, ![n, 4]⟩ : Shape).Idx → α) (h : (⟨2, ![n, 4]⟩ : Shape).ShapeCasts ⟨1, ![m]⟩)
    (hm : m = n * 4) (i : Fin n) (c : Fin 4) (k : ℕ) (hk : k = i.val * 4 + c.val) :
    word (shapeCast ⟨1, ![m]⟩ X h) k = X (ix2 i c) := by
  have hlt : k < m := by have := i.isLt; have := c.isLt; omega
  refine (word_of_eq _ (ix1 ⟨k, hlt⟩) (k := k) rfl).trans (shapeCast_apply X h _ (ix2 i c) ?_)
  rw [Shape.rowMajor_val_one, Shape.rowMajor_val_two]
  show i.val * 4 + c.val = k
  exact hk.symm

/-- A box of the padded list that is one of the proposals is the proposal. -/
theorem pad_at (A : Vec F S20000x4 .f32) (Z : Vec F S480x4 .f32) (q : Fin 20480) (q' : Fin 20000) (hq : q'.val = q.val) (c : Fin 4) :
    pad A Z (ix2 q c) = A (ix2 q' c) := by
  unfold pad
  refine concatenate_pair_apply_left 0 A Z _ (ix2 q c) rfl (ix2 q' c) ?_
  intro b
  match b with
  | ⟨0, _⟩ => exact hq
  | ⟨1, _⟩ => rfl

/-- The score of a proposal and a ground-truth box is the overlap of the two. -/
theorem score_at (A : Vec F S20000x4 .f32) (B : Vec F S128x4 .f32) (Z : Vec F S480x4 .f32) (q : Fin 20000) (g : Fin 128) :
    score (shapeCast S81920 (pad A Z) shapeCasts_S20480x4_S81920) (shapeCast S512 B shapeCasts_S128x4_S512) q.val g.val
      = overlap (A (ix2 q 0)) (A (ix2 q 1)) (A (ix2 q 2)) (A (ix2 q 3)) (B (ix2 g 0)) (B (ix2 g 1)) (B (ix2 g 2)) (B (ix2 g 3)) := by
  have hP : ∀ (c : Fin 4) (k : ℕ), k = q.val * 4 + c.val → word (shapeCast S81920 (pad A Z) shapeCasts_S20480x4_S81920) k = A (ix2 q c) := by
    intro c k hk
    have hlt : q.val < 20480 := by have := q.isLt; omega
    exact (flat_word (pad A Z) shapeCasts_S20480x4_S81920 rfl ⟨q.val, hlt⟩ c k hk).trans (pad_at A Z _ q rfl c)
  have hG : ∀ (c : Fin 4) (k : ℕ), k = g.val * 4 + c.val → word (shapeCast S512 B shapeCasts_S128x4_S512) k = B (ix2 g c) :=
    fun c k hk => flat_word B shapeCasts_S128x4_S512 rfl g c k hk
  unfold score
  rw [hP 0 (q.val * 4) rfl, hP 1 (q.val * 4 + 1) rfl, hP 2 (q.val * 4 + 2) rfl, hP 3 (q.val * 4 + 3) rfl, hG 0 (g.val * 4) rfl,
    hG 1 (g.val * 4 + 1) rfl, hG 2 (g.val * 4 + 2) rfl, hG 3 (g.val * 4 + 3) rfl]

/-- A result cut back to the proposals, read at one. -/
theorem cut_at {α : Type} (X : S20480.Idx → α) (q : Fin 20000) (q' : Fin 20480) (hq : q'.val = q.val) :
    extractStridedSlice S20000 ![0] X slices_S20480_S20000_0 (ix1 q) = X (ix1 q') :=
  extractStridedSlice_apply _ X _ (ix1 q) (ix1 q') (by
    intro a
    match a with
    | ⟨0, _⟩ => simp [hq])

end Cert.Proof.KernelIdeal

end
-- ==== Proof.Agree.lean ====
/-
  The kernel's three results are the reference's. At each proposal both come down to the same 128 overlaps: the kernel sweeps them,
  the reference takes their maximum and its first place. Where some overlap is at least zero the two agree at once; where none is,
  both the sweep's −1 and the reference's maximum are below the threshold, so that the labels and the box numbers agree there too.
  The best overlap itself agrees where the precondition holds.
-/
module

public import proofs.«01_k».proof.Proof.RefRead
public import proofs.«01_k».proof.Proof.RefColumn
public import proofs.«01_k».proof.Proof.RefLabel
public import proofs.«01_k».proof.Proof.Area
public import proofs.«01_k».proof.Proof.Words

@[expose] public section

noncomputable section

namespace Cert.Proof.Agree

open Idealize.ShloMosaic Idealize.ShloMosaic.ValueIdx Idealize.ShloMosaic.Ideal
open Cert.Proof.Matcher (score overlap sweep low best pick label IsMax Fair)

/-! ## One proposal -/

/-- Whether the best overlap is below the threshold, when the sweep's maximum is the reductions'. -/
theorem low_eq {u : ℕ → EReal} {M : EReal} {k : BitVec 32} (hu : Fair u) (h : IsMax u M k) {α : Type} (a b : α) :
    Scalar.select (low (F := Ideal) u) a b = if M < ((1 / 2 : ℝ) : EReal) then a else b := by
  unfold low best
  rw [cmpf_def, Matcher.select_olt, ofBits_def, Matcher.ofBits_half]
  rcases Matcher.sweep_agrees hu h with ⟨h1, -, -⟩ | ⟨h1, h2⟩
  · rw [h1]
  · rw [h1, h2, if_pos (Matcher.neg_one_lt_zero.trans Matcher.zero_lt_half), if_pos (EReal.bot_lt_coe _)]

/-- The box picked, from the reductions' maximum and place. -/
theorem pick_eq {u : ℕ → EReal} {M : EReal} {k : BitVec 32} (hu : Fair u) (h : IsMax u M k) :
    pick (F := Ideal) u = if M < ((1 / 2 : ℝ) : EReal) then 0#32 else k := by
  unfold pick
  rw [low_eq hu h]
  split
  · rfl
  · next hM =>
    rcases Matcher.sweep_agrees hu h with ⟨-, h2, -⟩ | ⟨-, h2⟩
    · exact h2
    · exact absurd (h2 ▸ EReal.bot_lt_coe _) hM

/-- At or above the threshold the place is one of the 128. -/
theorem place_lt {u : ℕ → EReal} {M : EReal} {k : BitVec 32} (hu : Fair u) (h : IsMax u M k) (hM : ¬ M < ((1 / 2 : ℝ) : EReal)) :
    k.toNat < 128 := by
  rcases Matcher.sweep_agrees hu h with ⟨-, -, h3⟩ | ⟨-, h2⟩
  · exact h3
  · exact absurd (h2 ▸ EReal.bot_lt_coe _) hM

/-- The best overlap is the reductions' maximum where some overlap is at least zero. -/
theorem best_eq {u : ℕ → EReal} {M : EReal} {k : BitVec 32} (hu : Fair u) (h : IsMax u M k) (hs : ∃ g < 128, 0 ≤ u g) :
    best (F := Ideal) u = M := by
  rcases Matcher.sweep_agrees hu h with ⟨h1, -, -⟩ | ⟨-, h2⟩
  · exact h1
  · obtain ⟨g, hg, h0⟩ := hs
    exact absurd (h0.trans (h.above g hg)) (by rw [h2]; exact not_le.mpr EReal.bot_lt_zero)

/-! ## All proposals -/

section
variable (A : FVec Ideal Cert.ReferenceIdeal.S20000x4 .f32) (B : FVec Ideal Cert.ReferenceIdeal.S128x4 .f32)
  (Z : FVec Ideal Cert.KernelIdeal.S480x4 .f32) (T : IVec Cert.ReferenceIdeal.S128 32)

/-- The flattened list of the padded proposals. -/
abbrev flatP : FVec Ideal Cert.KernelIdeal.S81920 .f32 :=
  shapeCast Cert.KernelIdeal.S81920 (Cert.Proof.KernelIdeal.pad (F := Ideal) A Z) Cert.KernelIdeal.Gen.shapeCasts_S20480x4_S81920
/-- The flattened list of the ground-truth boxes. -/
abbrev flatG : FVec Ideal Cert.KernelIdeal.S512 .f32 :=
  shapeCast Cert.KernelIdeal.S512 B Cert.KernelIdeal.Gen.shapeCasts_S128x4_S512

/-- The scores of a proposal are the column of the reference's ratios. -/
theorem iou_score (q : Fin 20000) (g : Fin 128) :
    Cert.Proof.ReferenceIdeal.iou A B (ix2 g q) = score (F := Ideal) (flatP A Z) (flatG B) q.val g.val :=
  (Cert.Proof.ReferenceIdeal.iou_at_ix A B g q).trans (Cert.Proof.KernelIdeal.score_at (F := Ideal) A B Z q g).symm

/-- They are each `⊥` or at least zero. -/
theorem fair (q : Fin 20000) : Fair (score (F := Ideal) (flatP A Z) (flatG B) q.val) := by
  intro g hg
  rw [show score (F := Ideal) (flatP A Z) (flatG B) q.val g = _ from Cert.Proof.KernelIdeal.score_at (F := Ideal) A B Z q ⟨g, hg⟩]
  exact (Matcher.overlap_cases _ _ _ _ _ _ _ _).imp And.right id

/-- The reference's two reductions at a proposal are the maximum of its scores and its place. -/
theorem isMax (q : Fin 20000) :
    IsMax (score (F := Ideal) (flatP A Z) (flatG B) q.val) (Cert.Proof.ReferenceIdeal.colMax (Cert.Proof.ReferenceIdeal.iou A B) (ix1 q))
      (Cert.Proof.ReferenceIdeal.colArg (Cert.Proof.ReferenceIdeal.iou A B) (ix1 q)) :=
  Cert.Proof.ReferenceIdeal.column_isMax (Cert.Proof.ReferenceIdeal.iou A B) q _ (iou_score A B Z q)

/-- A proposal's match: −1 below the threshold, else one of the 128 places. -/
theorem found_at (q : Fin 20000) :
    Cert.Proof.ReferenceIdeal.found A B (ix1 q)
      = if Cert.Proof.ReferenceIdeal.colMax (Cert.Proof.ReferenceIdeal.iou A B) (ix1 q) < ((1 / 2 : ℝ) : EReal) then 4294967295#32
        else Cert.Proof.ReferenceIdeal.colArg (Cert.Proof.ReferenceIdeal.iou A B) (ix1 q) :=
  Cert.Proof.ReferenceIdeal.matched_at _ _ _

theorem found_cases (q : Fin 20000) :
    Cert.Proof.ReferenceIdeal.found A B (ix1 q) = 4294967295#32 ∨ (Cert.Proof.ReferenceIdeal.found A B (ix1 q)).toNat < 128 := by
  rw [found_at]
  split
  · exact Or.inl rfl
  · next h => exact Or.inr (place_lt (fair A B (fun _ => 0) q) (isMax A B (fun _ => 0) q) h)

/-- The number of a proposal's box is the same on both sides. -/
theorem picks_at (q : Fin 20000) :
    pick (F := Ideal) (score (F := Ideal) (flatP A Z) (flatG B) q.val)
      = Cert.Proof.ReferenceIdeal.clamped (Cert.Proof.ReferenceIdeal.found A B) (ix1 q) := by
  rw [pick_eq (fair A B Z q) (isMax A B Z q), Cert.Proof.ReferenceIdeal.clamped_at _ _ (found_cases A B q), found_at]
  by_cases h : Cert.Proof.ReferenceIdeal.colMax (Cert.Proof.ReferenceIdeal.iou A B) (ix1 q) < ((1 / 2 : ℝ) : EReal)
  · rw [if_pos h, if_pos h, if_pos rfl]
  · have hk := place_lt (fair A B Z q) (isMax A B Z q) h
    rw [if_neg h, if_neg h, if_neg]
    intro e
    rw [e] at hk
    exact absurd hk (by decide)

/-- Its label is the same on both sides. -/
theorem labels_at (q : Fin 20000) :
    label (F := Ideal) T (score (F := Ideal) (flatP A Z) (flatG B) q.val)
      = Cert.Proof.ReferenceIdeal.labelled (Cert.Proof.ReferenceIdeal.found A B)
          (Cert.Proof.ReferenceIdeal.taken T (Cert.Proof.ReferenceIdeal.clamped (Cert.Proof.ReferenceIdeal.found A B))) (ix1 q) := by
  have hc : ∀ p : Fin 20000, (Cert.Proof.ReferenceIdeal.clamped (Cert.Proof.ReferenceIdeal.found A B) (ix1 p)).toNat < 128 :=
    fun p => picks_at A B Z p ▸ Matcher.pick_lt _
  rw [Cert.Proof.ReferenceIdeal.labelled_at _ _ _ (found_cases A B q), Cert.Proof.ReferenceIdeal.taken_at T _ hc, ← picks_at A B Z q]
  unfold label
  rw [low_eq (fair A B Z q) (isMax A B Z q), found_at]
  by_cases h : Cert.Proof.ReferenceIdeal.colMax (Cert.Proof.ReferenceIdeal.iou A B) (ix1 q) < ((1 / 2 : ℝ) : EReal)
  · rw [if_pos h, if_pos h, if_pos rfl]
  · have hk := place_lt (fair A B Z q) (isMax A B Z q) h
    rw [if_neg h, if_neg h, if_neg]
    intro e
    rw [e] at hk
    exact absurd hk (by decide)

/-- Its best overlap is the same on both sides where the precondition holds. -/
theorem bests_at (h : Cert.Pre_some_area.fn (F := Ideal) A B T = fun _ => 1#1) (q : Fin 20000) :
    best (F := Ideal) (score (F := Ideal) (flatP A Z) (flatG B) q.val)
      = Cert.Proof.ReferenceIdeal.colMax (Cert.Proof.ReferenceIdeal.iou A B) (ix1 q) := by
  refine best_eq (fair A B Z q) (isMax A B Z q) ?_
  obtain ⟨g, hg⟩ := Cert.Proof.ReferenceIdeal.some_area_at A B T h q
  refine ⟨g.val, g.isLt, ?_⟩
  rw [show score (F := Ideal) (flatP A Z) (flatG B) q.val g.val = _ from Cert.Proof.KernelIdeal.score_at (F := Ideal) A B Z q g]
  exact (Matcher.overlap_cases _ _ _ _ _ _ _ _).resolve_left fun e => hg e.1

/-- The place of a proposal in the padded results. -/
theorem place (q : Fin 20000) : q.val < 20480 := by have := q.isLt; omega

/-- The labels, cut back to the proposals, are the reference's. -/
theorem labels_eq :
    extractStridedSlice Cert.KernelIdeal.S20000 ![0] (Cert.Proof.KernelIdeal.labels (F := Ideal) (flatP A Z) (flatG B) T)
        Cert.KernelIdeal.Gen.slices_S20480_S20000_0
      = Cert.Proof.ReferenceIdeal.labelled (Cert.Proof.ReferenceIdeal.found A B)
          (Cert.Proof.ReferenceIdeal.taken T (Cert.Proof.ReferenceIdeal.clamped (Cert.Proof.ReferenceIdeal.found A B))) := by
  funext j
  obtain ⟨q, rfl⟩ : ∃ q : Fin 20000, j = ix1 q := ⟨j 0, eq_ix1 j⟩
  exact (Cert.Proof.KernelIdeal.cut_at _ q ⟨q.val, place q⟩ rfl).trans (labels_at A B Z T q)

/-- The numbers of the boxes, cut back to the proposals, are the reference's. -/
theorem picks_eq :
    extractStridedSlice Cert.KernelIdeal.S20000 ![0] (Cert.Proof.KernelIdeal.picks (F := Ideal) (flatP A Z) (flatG B))
        Cert.KernelIdeal.Gen.slices_S20480_S20000_0
      = Cert.Proof.ReferenceIdeal.clamped (Cert.Proof.ReferenceIdeal.found A B) := by
  funext j
  obtain ⟨q, rfl⟩ : ∃ q : Fin 20000, j = ix1 q := ⟨j 0, eq_ix1 j⟩
  exact (Cert.Proof.KernelIdeal.cut_at _ q ⟨q.val, place q⟩ rfl).trans (picks_at A B Z q)

/-- The best overlaps, cut back to the proposals, are the reference's where the precondition holds. -/
theorem bests_eq (h : Cert.Pre_some_area.fn (F := Ideal) A B T = fun _ => 1#1) :
    extractStridedSlice Cert.KernelIdeal.S20000 ![0] (Cert.Proof.KernelIdeal.bests (F := Ideal) (flatP A Z) (flatG B))
        Cert.KernelIdeal.Gen.slices_S20480_S20000_0
      = Cert.Proof.ReferenceIdeal.colMax (Cert.Proof.ReferenceIdeal.iou A B) := by
  funext j
  obtain ⟨q, rfl⟩ : ∃ q : Fin 20000, j = ix1 q := ⟨j 0, eq_ix1 j⟩
  exact (Cert.Proof.KernelIdeal.cut_at _ q ⟨q.val, place q⟩ rfl).trans (bests_at A B Z T h q)

end

end Cert.Proof.Agree

end
-- ==== Proof.lean ====
/-
  The certificate's claim: the kernel runs and keeps its arguments, as printed and at the ideal instance; the reference runs and keeps
  its own; the idealization rewrites no operation; and, where every proposal has some box with which its areas do not sum to zero, the
  kernel's three results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_some_area
public import proofs.«01_k».proof.Proof.IdealRun
public import proofs.«01_k».proof.Proof.BitRun
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.ShloMosaic.StableHlo Idealize.SL.Sem

/-! ## The frames -/

/-- The reference runs, keeps its arguments and has no counter to leave other than zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run (Cert.ReferenceIdeal.defs (F := Ideal)) _ _).mono (fun r h =>
    ⟨fun c => ⟨(h c _).trans (ReferenceIdeal.arg0_kept _), (h c _).trans (ReferenceIdeal.arg1_kept _), (h c _).trans (ReferenceIdeal.arg2_kept _)⟩,
      sem_eq_zero_of_no_sems (by decide) r.2⟩) (ReferenceIdeal.run_main (F := Ideal) m g)

/-! ## The values -/

section
variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)
  (h0 : V (ReferenceIdeal.dr Cert.ReferenceIdeal.main_arg0) = m (c, KernelIdeal.dr Cert.KernelIdeal.main_arg0))
  (h1 : V (ReferenceIdeal.dr Cert.ReferenceIdeal.main_arg1) = m (c, KernelIdeal.dr Cert.KernelIdeal.main_arg1))
  (h2 : V (ReferenceIdeal.dr Cert.ReferenceIdeal.main_arg2) = m (c, KernelIdeal.dr Cert.KernelIdeal.main_arg2))
include h0 h1

/-- The box numbers the kernel leaves are those the reference leaves, from equal arguments. -/
theorem same_picks : after ReferenceIdeal.ops V (ReferenceIdeal.dr Cert.ReferenceIdeal.main_v61) = KernelIdeal.V3 m c (KernelIdeal.dr Cert.KernelIdeal.main_v7) := by
  rw [ReferenceIdeal.result3, KernelIdeal.V3_v7, KernelIdeal.boxesP_eq, KernelIdeal.boxesG_eq, h0, h1]
  exact (Agree.picks_eq _ _ _).symm

/-- The best overlaps are, too, where the precondition holds. -/
theorem same_bests (h : Cert.Pre_some_area.fn (F := Ideal) (m (c, KernelIdeal.dr Cert.KernelIdeal.main_arg0)) (m (c, KernelIdeal.dr Cert.KernelIdeal.main_arg1))
      (m (c, KernelIdeal.dr Cert.KernelIdeal.main_arg2)) = fun _ => 1#1) :
    after ReferenceIdeal.ops V (ReferenceIdeal.dr Cert.ReferenceIdeal.main_v50) = KernelIdeal.V3 m c (KernelIdeal.dr Cert.KernelIdeal.main_v6) := by
  rw [ReferenceIdeal.result2, KernelIdeal.V3_v6, KernelIdeal.boxesP_eq, KernelIdeal.boxesG_eq, h0, h1]
  exact (Agree.bests_eq _ _ _ _ h).symm

include h2

/-- And the labels are. -/
theorem same_labels : after ReferenceIdeal.ops V (ReferenceIdeal.dr Cert.ReferenceIdeal.main_v68) = KernelIdeal.V3 m c (KernelIdeal.dr Cert.KernelIdeal.main_v5) := by
  rw [ReferenceIdeal.result1, KernelIdeal.V3_v5, KernelIdeal.boxesP_eq, KernelIdeal.boxesG_eq, KernelIdeal.table_eq, h0, h1, h2]
  exact (Agree.labels_eq _ _ _ _).symm

end

/-- From equal arguments that meet the precondition the kernel and the reference leave equal results. -/
theorem results_agree : Cert.algebraic_KernelIdeal_ReferenceIdeal_pre_some_area := by
  intro m g m' g' hpre hargs
  refine ⟨fun c => KernelIdeal.V3 m c (KernelIdeal.dr Cert.KernelIdeal.main_v5), fun c => KernelIdeal.V3 m c (KernelIdeal.dr Cert.KernelIdeal.main_v6),
    fun c => KernelIdeal.V3 m c (KernelIdeal.dr Cert.KernelIdeal.main_v7), ?_, ?_⟩
  · refine (θ_run (Cert.KernelIdeal.defs (F := Ideal)) _ _).mono (fun r h c => ?_) (KernelIdeal.run_main (F := Ideal) m g)
    exact ⟨h.1 c (KernelIdeal.dr Cert.KernelIdeal.main_v5) (by decide), h.1 c (KernelIdeal.dr Cert.KernelIdeal.main_v6) (by decide),
      h.1 c (KernelIdeal.dr Cert.KernelIdeal.main_v7) (by decide),
      (h.1 c (KernelIdeal.dr Cert.KernelIdeal.main_arg0) (by decide)).trans (KernelIdeal.V3_arg0 m c),
      (h.1 c (KernelIdeal.dr Cert.KernelIdeal.main_arg1) (by decide)).trans (KernelIdeal.V3_arg1 m c),
      (h.1 c (KernelIdeal.dr Cert.KernelIdeal.main_arg2) (by decide)).trans (KernelIdeal.V3_arg2 m c)⟩
  · refine (θ_run (Cert.ReferenceIdeal.defs (F := Ideal)) _ _).mono (fun r h c => ?_) (ReferenceIdeal.run_main (F := Ideal) m' g')
    obtain ⟨h0, h1, h2⟩ := hargs c
    exact ⟨(h c _).trans (same_labels m (launchContents m' c) c h0 h1 h2), (h c _).trans (same_bests m (launchContents m' c) c h0 h1 (hpre c)),
      (h c _).trans (same_picks m (launchContents m' c) c h0 h1),
      (h c _).trans (ReferenceIdeal.arg0_kept _), (h c _).trans (ReferenceIdeal.arg1_kept _), (h c _).trans (ReferenceIdeal.arg2_kept _)⟩

/-- The whole claim. -/
theorem claim : Cert.Claim :=
  ⟨Cert.Kernel.Gen.facts, Cert.KernelIdeal.Gen.facts, Cert.ReferenceIdeal.Gen.facts, Cert.Pre_some_area.Gen.facts,
    fun m g _ => Kernel.frame_run (F := Bits) m g, fun m g _ => KernelIdeal.frame_run (F := Ideal) m g,
    fun m g _ => KernelIdeal.frame_run (F := Ideal) m g, fun m g _ => reference_frame m g, fun m g _ => reference_frame m g,
    trivial, results_agree⟩

end Cert.Proof

end
